-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rstd_nonneg_finite [hPre_rstd_nonneg_finite : Cert.Pre_rstd_nonneg_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rstd_nonneg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rstd_nonneg_finite [hPre_rstd_nonneg_finite : Cert.Pre_rstd_nonneg_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rstd_nonneg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rstd_nonneg_finite [hKernelIdeal : Cert.KernelIdeal.Facts] [hPre_rstd_nonneg_finite : Cert.Pre_rstd_nonneg_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rstd_nonneg_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rstd_nonneg_finite [hReferenceIdeal : Cert.ReferenceIdeal.Facts] [hPre_rstd_nonneg_finite : Cert.Pre_rstd_nonneg_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rstd_nonneg_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d" .f32 0x39CCCCCD#32 ((1 / 2560 : ℝ) : EReal)

def algebraic_KernelIdeal_ReferenceIdeal_pre_rstd_nonneg_finite [hKernelIdeal : Cert.KernelIdeal.Facts] [hReferenceIdeal : Cert.ReferenceIdeal.Facts] [hPre_rstd_nonneg_finite : Cert.Pre_rstd_nonneg_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rstd_nonneg_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rstd_nonneg_finite : Cert.Pre_rstd_nonneg_finite.Facts),
    quiescent_Kernel (hKernel := hKernel)
    ∧ quiescent_KernelIdeal (hKernelIdeal := hKernelIdeal)
    ∧ quiescent_KernelIdeal_pre_rstd_nonneg_finite (hKernelIdeal := hKernelIdeal) (hPre_rstd_nonneg_finite := hPre_rstd_nonneg_finite)
    ∧ quiescent_ReferenceIdeal (hReferenceIdeal := hReferenceIdeal)
    ∧ quiescent_ReferenceIdeal_pre_rstd_nonneg_finite (hReferenceIdeal := hReferenceIdeal) (hPre_rstd_nonneg_finite := hPre_rstd_nonneg_finite)
    ∧ preserves_Kernel_KernelIdeal
    ∧ algebraic_KernelIdeal_ReferenceIdeal_pre_rstd_nonneg_finite (hKernelIdeal := hKernelIdeal) (hReferenceIdeal := hReferenceIdeal) (hPre_rstd_nonneg_finite := hPre_rstd_nonneg_finite)
-- ==== Pre_rstd_nonneg_finite.lean ====
abbrev S50x1024x2560 : Shape := ⟨3, ![50, 1024, 2560]⟩
abbrev S2560 : Shape := ⟨1, ![2560]⟩
abbrev S50x1024 : Shape := ⟨2, ![50, 1024]⟩
abbrev S_ : Shape := ⟨0, ![]⟩

class Facts : Prop where
  bcast_S_S50x1024 : S_.BroadcastsInDim S50x1024 (![] : Fin 0 → Fin S50x1024.rank)
  reducesTo_S50x1024_S_d0_1 : S50x1024.ReducesTo [0, 1] S_
  h_S_ : 0 < S_.numel

variable [Facts]

def fn {F : FTy → Type} [FloatOps F] (main_arg0 : FVec F S50x1024x2560 .bf16) (main_arg1 : FVec F S50x1024x2560 .bf16) (main_arg2 : FVec F S2560 .f32) (main_arg3 : FVec F S50x1024 .f32) : IVec S_ 1 :=
  let main_cst : FVec F S_ .f32 := constant S_ .f32 0x00000000#32
  let main_v0 : FVec F S50x1024 .f32 := broadcastInDim S50x1024 ![] bcast_S_S50x1024 main_cst
  let main_v1 : IVec S50x1024 1 := cmpf .oge main_arg3 main_v0
  let main_cst_0 : FVec F S_ .f32 := constant S_ .f32 0x7F800000#32
  let main_v2 : FVec F S50x1024 .f32 := broadcastInDim S50x1024 ![] bcast_S_S50x1024 main_cst_0
  let main_v3 : IVec S50x1024 1 := cmpf .olt main_arg3 main_v2
  let main_v4 : IVec S50x1024 1 := andi main_v1 main_v3
  let main_c : IVec S_ 1 := constantI S_ 1 1#1
  let main_v5 : IVec S_ 1 := (fun x v => Host.reduce IntOp.andi x v reducesTo_S50x1024_S_d0_1 h_S_) main_v4 main_c
  main_v5
-- ==== Kernel.lean ====
abbrev S50x1024x2560 : Shape := ⟨3, ![50, 1024, 2560]⟩
abbrev S2560 : Shape := ⟨1, ![2560]⟩
abbrev S50x1024 : Shape := ⟨2, ![50, 1024]⟩
abbrev S1x2560 : Shape := ⟨2, ![1, 2560]⟩
abbrev S50x1x1024 : Shape := ⟨3, ![50, 1, 1024]⟩
abbrev S1x1024x2560 : Shape := ⟨3, ![1, 1024, 2560]⟩
abbrev S1x1x1024 : Shape := ⟨3, ![1, 1, 1024]⟩
abbrev S8x2560 : Shape := ⟨2, ![8, 2560]⟩
abbrev S1024x128 : Shape := ⟨2, ![1024, 128]⟩
abbrev S4x8x2560 : Shape := ⟨3, ![4, 8, 2560]⟩
abbrev S4x8x128 : Shape := ⟨3, ![4, 8, 128]⟩
abbrev S8x128 : Shape := ⟨2, ![8, 128]⟩
abbrev S1x1x128 : Shape := ⟨3, ![1, 1, 128]⟩
abbrev S1x128 : Shape := ⟨2, ![1, 128]⟩
abbrev S8 : Shape := ⟨1, ![8]⟩
abbrev S8x1 : Shape := ⟨2, ![8, 1]⟩
abbrev S32x128 : Shape := ⟨2, ![32, 128]⟩
abbrev S1x32x256 : Shape := ⟨3, ![1, 32, 256]⟩
abbrev S32x256 : Shape := ⟨2, ![32, 256]⟩
abbrev S1x8x128 : Shape := ⟨3, ![1, 8, 128]⟩
abbrev S4x8 : Shape := ⟨2, ![4, 8]⟩
abbrev S4x8x1 : Shape := ⟨3, ![4, 8, 1]⟩
abbrev S1x32x128 : Shape := ⟨3, ![1, 32, 128]⟩
abbrev S128 : Shape := ⟨1, ![128]⟩

abbrev nBuf : Space → Nat
  | .hbm => 9
  | .vmem => 26
  | .smem => 0
  | _ => 0

abbrev bufTy : (tb : Table) → Fin (tcTables nBuf tb) → BufTy
  | .hbm, ⟨0, _⟩ => ⟨S50x1024x2560, .bf16⟩
  | .hbm, ⟨1, _⟩ => ⟨S50x1024x2560, .bf16⟩
  | .hbm, ⟨2, _⟩ => ⟨S2560, .f32⟩
  | .hbm, ⟨3, _⟩ => ⟨S50x1024, .f32⟩
  | .hbm, ⟨4, _⟩ => ⟨S1x2560, .f32⟩
  | .hbm, ⟨5, _⟩ => ⟨S50x1x1024, .f32⟩
  | .hbm, ⟨6, _⟩ => ⟨S1x2560, .f32⟩
  | .hbm, ⟨7, _⟩ => ⟨S50x1024x2560, .fp8e5m2⟩
  | .hbm, ⟨8, _⟩ => ⟨S50x1x1024, .f32⟩
  | .local _ .vmem, ⟨0, _⟩ => ⟨S1x1024x2560, .bf16⟩
  | .local _ .vmem, ⟨1, _⟩ => ⟨S1x1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1x2560, .f32⟩
  | .local _ .vmem, ⟨5, _⟩ => ⟨S1x1x1024, .f32⟩
  | .local _ .vmem, ⟨6, _⟩ => ⟨S1x1x1024, .f32⟩
  | .local _ .vmem, ⟨7, _⟩ => ⟨S1x2560, .f32⟩
  | .local _ .vmem, ⟨8, _⟩ => ⟨S1x1024x2560, .fp8e5m2⟩
  | .local _ .vmem, ⟨9, _⟩ => ⟨S1x1024x2560, .fp8e5m2⟩
  | .local _ .vmem, ⟨10, _⟩ => ⟨S1x1x1024, .f32⟩
  | .local _ .vmem, ⟨11, _⟩ => ⟨S1x1x1024, .f32⟩
  | .local _ .vmem, ⟨12, _⟩ => ⟨S8x2560, .f32⟩
  | .local _ .vmem, ⟨13, _⟩ => ⟨S8x2560, .f32⟩
  | .local _ .vmem, ⟨14, _⟩ => ⟨S1024x128, .f32⟩
  | .local _ .vmem, ⟨15, _⟩ => ⟨S1024x128, .f32⟩
  | .local _ .vmem, ⟨16, _⟩ => ⟨S4x8x2560, .f32⟩
  | .local _ .vmem, ⟨17, _⟩ => ⟨S4x8x2560, .f32⟩
  | .local _ .vmem, ⟨18, _⟩ => ⟨S4x8x2560, .f32⟩
  | .local _ .vmem, ⟨19, _⟩ => ⟨S4x8x2560, .f32⟩
  | .local _ .vmem, ⟨20, _⟩ => ⟨S4x8x2560, .f32⟩
  | .local _ .vmem, ⟨21, _⟩ => ⟨S4x8x2560, .f32⟩
  | .local _ .vmem, ⟨22, _⟩ => ⟨S4x8x128, .f32⟩
  | .local _ .vmem, ⟨23, _⟩ => ⟨S4x8x128, .f32⟩
  | .local _ .vmem, ⟨24, _⟩ => ⟨S4x8x128, .f32⟩
  | .local _ .vmem, ⟨25, _⟩ => ⟨S4x8x128, .f32⟩
  | _, _ => ⟨S50x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_scratch13 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![50], ![false]⟩

def k0_mult1 : BitVec 32 :=
  let c0_i32_521 : BitVec 32 := 0#32
  c0_i32_521
def k0_mult2 : BitVec 32 :=
  let c0_i32_795 : BitVec 32 := 0#32
  c0_i32_795
def k0_mult3 : BitVec 32 :=
  let c32_i32_986 : BitVec 32 := 32#32
  c32_i32_986
@[reducible] def k0_t1_loop : Scf.Loop 32 :=
  let c0_i32_1272 : BitVec 32 := 0#32
  let c15_i32 : BitVec 32 := 15#32
  let v3305 : BitVec 32 := Scalar.addi c0_i32_1272 c15_i32
  let c1_i32 : BitVec 32 := 1#32
  ⟨c0_i32_1272, v3305, c1_i32⟩
def k0_mult4 (k0_t1 : Fin k0_t1_loop.trips) : BitVec 32 :=
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let c0_i32_2332 : BitVec 32 := 0#32
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  v5075
def k0_off1 (k0_t1 : Fin k0_t1_loop.trips) (c0_i32_2332 : BitVec 32) (c2_i32_2333 : BitVec 32) : Fin 2 → Nat :=
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let v5074 : BitVec 32 := Scalar.subi v5073 c2_i32_2333
  let c32_i32_2334 : BitVec 32 := 32#32
  let v5075 : BitVec 32 := Scalar.muli v5074 c32_i32_2334
  let v5076 : BitVec 32 := v5075
  let v5143 : Index := Scalar.indexCast v5076
  let c0_2356 : Index := 0#32
  ![v5143.toNat, 0]
def k0_off2 (k0_t1 : Fin k0_t1_loop.trips) (c0_i32_2332 : BitVec 32) : Fin 3 → Nat :=
  let c0_2362 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5155 : Index := Scalar.indexCast v5076
  let c0_2363 : Index := 0#32
  ![0, v5155.toNat, 0]
def k0_off3 (k0_t1 : Fin k0_t1_loop.trips) (c0_i32_2332 : BitVec 32) : Fin 3 → Nat :=
  let c0_2369 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5167 : Index := Scalar.indexCast v5076
  let c128_2370 : Index := 128#32
  ![0, v5167.toNat, 128]
def k0_off4 (k0_t1 : Fin k0_t1_loop.trips) (c0_i32_2332 : BitVec 32) : Fin 3 → Nat :=
  let c0_2376 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5179 : Index := Scalar.indexCast v5076
  let c256_2377 : Index := 256#32
  ![0, v5179.toNat, 256]
def k0_off5 (k0_t1 : Fin k0_t1_loop.trips) (c0_i32_2332 : BitVec 32) : Fin 3 → Nat :=
  let c0_2383 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5191 : Index := Scalar.indexCast v5076
  let c384_2384 : Index := 384#32
  ![0, v5191.toNat, 384]
def k0_off6 (k0_t1 : Fin k0_t1_loop.trips) (c0_i32_2332 : BitVec 32) : Fin 3 → Nat :=
  let c0_2390 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5203 : Index := Scalar.indexCast v5076
  let c512_2391 : Index := 512#32
  ![0, v5203.toNat, 512]
def k0_off7 (k0_t1 : Fin k0_t1_loop.trips) (c0_i32_2332 : BitVec 32) : Fin 3 → Nat :=
  let c0_2397 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5215 : Index := Scalar.indexCast v5076
  let c640_2398 : Index := 640#32
  ![0, v5215.toNat, 640]
def k0_off8 (k0_t1 : Fin k0_t1_loop.trips) (c0_i32_2332 : BitVec 32) : Fin 3 → Nat :=
  let c0_2404 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5227 : Index := Scalar.indexCast v5076
  let c768_2405 : Index := 768#32
  ![0, v5227.toNat, 768]
def k0_off9 (k0_t1 : Fin k0_t1_loop.trips) (c0_i32_2332 : BitVec 32) : Fin 3 → Nat :=
  let c0_2411 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5239 : Index := Scalar.indexCast v5076
  let c896_2412 : Index := 896#32
  ![0, v5239.toNat, 896]
def k0_off10 (k0_t1 : Fin k0_t1_loop.trips) (c0_i32_2332 : BitVec 32) : Fin 3 → Nat :=
  let c0_2418 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5251 : Index := Scalar.indexCast v5076
  let c1024_2419 : Index := 1024#32
  ![0, v5251.toNat, 1024]
def k0_off11 (k0_t1 : Fin k0_t1_loop.trips) (c0_i32_2332 : BitVec 32) : Fin 3 → Nat :=
  let c0_2425 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5263 : Index := Scalar.indexCast v5076
  let c1152_2426 : Index := 1152#32
  ![0, v5263.toNat, 1152]
def k0_off12 (k0_t1 : Fin k0_t1_loop.trips) (c0_i32_2332 : BitVec 32) : Fin 3 → Nat :=
  let c0_2432 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5275 : Index := Scalar.indexCast v5076
  let c1280_2433 : Index := 1280#32
  ![0, v5275.toNat, 1280]
def k0_off13 (k0_t1 : Fin k0_t1_loop.trips) (c0_i32_2332 : BitVec 32) : Fin 3 → Nat :=
  let c0_2439 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5287 : Index := Scalar.indexCast v5076
  let c1408_2440 : Index := 1408#32
  ![0, v5287.toNat, 1408]
def k0_off14 (k0_t1 : Fin k0_t1_loop.trips) (c0_i32_2332 : BitVec 32) : Fin 3 → Nat :=
  let c0_2446 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5299 : Index := Scalar.indexCast v5076
  let c1536_2447 : Index := 1536#32
  ![0, v5299.toNat, 1536]
def k0_off15 (k0_t1 : Fin k0_t1_loop.trips) (c0_i32_2332 : BitVec 32) : Fin 3 → Nat :=
  let c0_2453 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5311 : Index := Scalar.indexCast v5076
  let c1664_2454 : Index := 1664#32
  ![0, v5311.toNat, 1664]
def k0_off16 (k0_t1 : Fin k0_t1_loop.trips) (c0_i32_2332 : BitVec 32) : Fin 3 → Nat :=
  let c0_2460 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5323 : Index := Scalar.indexCast v5076
  let c1792_2461 : Index := 1792#32
  ![0, v5323.toNat, 1792]
def k0_off17 (k0_t1 : Fin k0_t1_loop.trips) (c0_i32_2332 : BitVec 32) : Fin 3 → Nat :=
  let c0_2467 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5335 : Index := Scalar.indexCast v5076
  let c1920_2468 : Index := 1920#32
  ![0, v5335.toNat, 1920]
def k0_off18 (k0_t1 : Fin k0_t1_loop.trips) (c0_i32_2332 : BitVec 32) : Fin 3 → Nat :=
  let c0_2474 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5347 : Index := Scalar.indexCast v5076
  let c2048_2475 : Index := 2048#32
  ![0, v5347.toNat, 2048]
def k0_off19 (k0_t1 : Fin k0_t1_loop.trips) (c0_i32_2332 : BitVec 32) : Fin 3 → Nat :=
  let c0_2481 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5359 : Index := Scalar.indexCast v5076
  let c2176_2482 : Index := 2176#32
  ![0, v5359.toNat, 2176]
def k0_off20 (k0_t1 : Fin k0_t1_loop.trips) (c0_i32_2332 : BitVec 32) : Fin 3 → Nat :=
  let c0_2488 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5371 : Index := Scalar.indexCast v5076
  let c2304_2489 : Index := 2304#32
  ![0, v5371.toNat, 2304]
def k0_off21 (k0_t1 : Fin k0_t1_loop.trips) (c0_i32_2332 : BitVec 32) : Fin 3 → Nat :=
  let c0_2495 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5073 : BitVec 32 := Scalar.addi v5072 c0_i32_2332
  let c2_i32_2333 : BitVec 32 := 2#32
  let v5074 : BitVec 32 := Scalar.subi v5073 c2_i32_2333
  let c32_i32_2334 : BitVec 32 := 32#32
  let v5075 : BitVec 32 := Scalar.muli v5074 c32_i32_2334
  let v5076 : BitVec 32 := v5075
  let v5383 : Index := Scalar.indexCast v5076
  let c2432_2496 : Index := 2432#32
  ![0, v5383.toNat, 2432]
def k0_mult5 (k0_t1 : Fin k0_t1_loop.trips) : BitVec 32 :=
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let c0_i32_2497 : BitVec 32 := 0#32
  let v5387 : BitVec 32 := Scalar.addi v5072 c0_i32_2497
  let c1_i32_2498 : BitVec 32 := 1#32
  let v5388 : BitVec 32 := Scalar.subi v5387 c1_i32_2498
  let c32_i32_2499 : BitVec 32 := 32#32
  let v5389 : BitVec 32 := Scalar.muli v5388 c32_i32_2499
  v5389
def k0_mult6 (k0_t1 : Fin k0_t1_loop.trips) : BitVec 32 :=
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let c0_i32_2690 : BitVec 32 := 0#32
  let v5586 : BitVec 32 := Scalar.addi v5072 c0_i32_2690
  let c32_i32_2691 : BitVec 32 := 32#32
  let v5587 : BitVec 32 := Scalar.muli v5586 c32_i32_2691
  v5587
def k0_off22 (k0_t1 : Fin k0_t1_loop.trips) (c0_i32_2690 : BitVec 32) : Fin 2 → Nat :=
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v5589 : Index := Scalar.indexCast v5588
  let c0_2692 : Index := 0#32
  ![v5589.toNat, 0]
def k0_off23 (k0_t1 : Fin k0_t1_loop.trips) (c0_i32_2690 : BitVec 32) : Fin 3 → Nat :=
  let c0_2694 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v5593 : Index := Scalar.indexCast v5588
  let c0_2695 : Index := 0#32
  ![0, v5593.toNat, 0]
def k0_off24 (k0_t1 : Fin k0_t1_loop.trips) (c0_i32_2690 : BitVec 32) : Fin 3 → Nat :=
  let c0_2722 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v5669 : Index := Scalar.indexCast v5588
  let c256_2723 : Index := 256#32
  ![0, v5669.toNat, 256]
def k0_off25 (k0_t1 : Fin k0_t1_loop.trips) (c0_i32_2690 : BitVec 32) : Fin 3 → Nat :=
  let c0_2750 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v5745 : Index := Scalar.indexCast v5588
  let c512_2751 : Index := 512#32
  ![0, v5745.toNat, 512]
def k0_off26 (k0_t1 : Fin k0_t1_loop.trips) (c0_i32_2690 : BitVec 32) : Fin 3 → Nat :=
  let c0_2778 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v5821 : Index := Scalar.indexCast v5588
  let c768_2779 : Index := 768#32
  ![0, v5821.toNat, 768]
def k0_off27 (k0_t1 : Fin k0_t1_loop.trips) (c0_i32_2690 : BitVec 32) : Fin 3 → Nat :=
  let c0_2806 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v5897 : Index := Scalar.indexCast v5588
  let c1024_2807 : Index := 1024#32
  ![0, v5897.toNat, 1024]
def k0_off28 (k0_t1 : Fin k0_t1_loop.trips) (c0_i32_2690 : BitVec 32) : Fin 3 → Nat :=
  let c0_2834 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v5973 : Index := Scalar.indexCast v5588
  let c1280_2835 : Index := 1280#32
  ![0, v5973.toNat, 1280]
def k0_off29 (k0_t1 : Fin k0_t1_loop.trips) (c0_i32_2690 : BitVec 32) : Fin 3 → Nat :=
  let c0_2862 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v6049 : Index := Scalar.indexCast v5588
  let c1536_2863 : Index := 1536#32
  ![0, v6049.toNat, 1536]
def k0_off30 (k0_t1 : Fin k0_t1_loop.trips) (c0_i32_2690 : BitVec 32) : Fin 3 → Nat :=
  let c0_2890 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v6125 : Index := Scalar.indexCast v5588
  let c1792_2891 : Index := 1792#32
  ![0, v6125.toNat, 1792]
def k0_off31 (k0_t1 : Fin k0_t1_loop.trips) (c0_i32_2690 : BitVec 32) : Fin 3 → Nat :=
  let c0_2918 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v6201 : Index := Scalar.indexCast v5588
  let c2048_2919 : Index := 2048#32
  ![0, v6201.toNat, 2048]
def k0_off32 (k0_t1 : Fin k0_t1_loop.trips) (c0_i32_2690 : BitVec 32) : Fin 3 → Nat :=
  let c0_2946 : Index := 0#32
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let v5586 : BitVec 32 := Scalar.addi v5072 c0_i32_2690
  let c32_i32_2691 : BitVec 32 := 32#32
  let v5587 : BitVec 32 := Scalar.muli v5586 c32_i32_2691
  let v5588 : BitVec 32 := v5587
  let v6277 : Index := Scalar.indexCast v5588
  let c2304_2947 : Index := 2304#32
  ![0, v6277.toNat, 2304]
def k0_mult7 (k0_t1 : Fin k0_t1_loop.trips) : BitVec 32 :=
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let c1_i32_2977 : BitVec 32 := 1#32
  let v6356 : BitVec 32 := Scalar.addi v5072 c1_i32_2977
  let c2_i32_2978 : BitVec 32 := 2#32
  let v6357 : BitVec 32 := Scalar.subi v6356 c2_i32_2978
  let c32_i32_2979 : BitVec 32 := 32#32
  let v6358 : BitVec 32 := Scalar.muli v6357 c32_i32_2979
  v6358
def k0_mult8 (k0_t1 : Fin k0_t1_loop.trips) : BitVec 32 :=
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let c1_i32_3142 : BitVec 32 := 1#32
  let v6670 : BitVec 32 := Scalar.addi v5072 c1_i32_3142
  let c1_i32_3143 : BitVec 32 := 1#32
  let v6671 : BitVec 32 := Scalar.subi v6670 c1_i32_3143
  let c32_i32_3144 : BitVec 32 := 32#32
  let v6672 : BitVec 32 := Scalar.muli v6671 c32_i32_3144
  v6672
def k0_mult9 (k0_t1 : Fin k0_t1_loop.trips) : BitVec 32 :=
  let c2_i32 : BitVec 32 := 2#32
  let c0_i32_1272 : BitVec 32 := 0#32
  let c1_i32 : BitVec 32 := 1#32
  let arg22 : BitVec 32 := Scf.iv c0_i32_1272 c1_i32 k0_t1
  let v5071 : BitVec 32 := Scalar.muli c2_i32 arg22
  let c2_i32_2331 : BitVec 32 := 2#32
  let v5072 : BitVec 32 := Scalar.addi v5071 c2_i32_2331
  let c1_i32_3335 : BitVec 32 := 1#32
  let v6869 : BitVec 32 := Scalar.addi v5072 c1_i32_3335
  let c32_i32_3336 : BitVec 32 := 32#32
  let v6870 : BitVec 32 := Scalar.muli v6869 c32_i32_3336
  v6870
def k0_mult10 : BitVec 32 :=
  let c960_i32 : BitVec 32 := 960#32
  c960_i32
def k0_mult11 : BitVec 32 :=
  let c992_i32 : BitVec 32 := 992#32
  c992_i32
def k0_mult12 : BitVec 32 :=
  let c992_i32_1615 : BitVec 32 := 992#32
  c992_i32_1615
def k0_cond2 (i : grid0.Coords) : BitVec 1 :=
  let arg0 : BitVec 32 := BitVec.ofNat 32 (i 0).val
  let c49_i32 : BitVec 32 := 49#32
  let v5068 : BitVec 1 := Scalar.cmpi .eq arg0 c49_i32
  let v5069 : BitVec 32 := Scalar.extui v5068
  let c0_i32_2330 : BitVec 32 := 0#32
  let v5070 : BitVec 1 := Scalar.cmpi .ne v5069 c0_i32_2330
  v5070

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x2560 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_d" => some ((1 / 2560 : ℝ) : EReal)
  | _ => none
-- ==== ReferenceIdeal.lean ====
abbrev S50x1024x2560 : Shape := ⟨3, ![50, 1024, 2560]⟩
abbrev S2560 : Shape := ⟨1, ![2560]⟩
abbrev S50x1024 : Shape := ⟨2, ![50, 1024]⟩
abbrev S51200x2560 : Shape := ⟨2, ![51200, 2560]⟩
abbrev S51200x1 : Shape := ⟨2, ![51200, 1]⟩
abbrev S1x2560 : Shape := ⟨2, ![1, 2560]⟩
abbrev S_ : Shape := ⟨0, ![]⟩
abbrev S51200 : Shape := ⟨1, ![51200]⟩
abbrev S1x252 : Shape := ⟨2, ![1, 252]⟩
abbrev S51200x252 : Shape := ⟨2, ![51200, 252]⟩
abbrev S50x1x1024 : Shape := ⟨3, ![50, 1, 1024]⟩

abbrev nBuf : Space → Nat
  | .hbm => 90
  | .vmem => 2
  | .smem => 0
  | _ => 0

abbrev bufTy : (tb : Table) → Fin (tcTables nBuf tb) → BufTy
  | .hbm, ⟨0, _⟩ => ⟨S50x1024x2560, .bf16⟩
  | .hbm, ⟨1, _⟩ => ⟨S50x1024x2560, .bf16⟩
  | .hbm, ⟨2, _⟩ => ⟨S2560, .f32⟩
  | .hbm, ⟨3, _⟩ => ⟨S50x1024, .f32⟩
  | .hbm, ⟨4, _⟩ => ⟨S50x1024x2560, .f32⟩
  | .hbm, ⟨5, _⟩ => ⟨S51200x2560, .f32⟩
  | .hbm, ⟨6, _⟩ => ⟨S50x1024x2560, .f32⟩
  | .hbm, ⟨7, _⟩ => ⟨S51200x2560, .f32⟩
  | .hbm, ⟨8, _⟩ => ⟨S51200x1, .f32⟩
  | .hbm, ⟨9, _⟩ => ⟨S51200x2560, .f32⟩
  | .hbm, ⟨10, _⟩ => ⟨S51200x2560, .f32⟩
  | .hbm, ⟨11, _⟩ => ⟨S1x2560, .f32⟩
  | .hbm, ⟨12, _⟩ => ⟨S51200x2560, .f32⟩
  | .hbm, ⟨13, _⟩ => ⟨S51200x2560, .f32⟩
  | .hbm, ⟨14, _⟩ => ⟨S51200x2560, .f32⟩
  | .hbm, ⟨15, _⟩ => ⟨S_, .f32⟩
  | .hbm, ⟨16, _⟩ => ⟨S51200, .f32⟩
  | .hbm, ⟨17, _⟩ => ⟨S51200x1, .f32⟩
  | .hbm, ⟨18, _⟩ => ⟨S_, .f32⟩
  | .hbm, ⟨19, _⟩ => ⟨S51200x1, .f32⟩
  | .hbm, ⟨20, _⟩ => ⟨S51200x1, .f32⟩
  | .hbm, ⟨21, _⟩ => ⟨S51200x2560, .f32⟩
  | .hbm, ⟨22, _⟩ => ⟨S51200x2560, .f32⟩
  | .hbm, ⟨23, _⟩ => ⟨S51200x2560, .f32⟩
  | .hbm, ⟨24, _⟩ => ⟨S51200x2560, .f32⟩
  | .hbm, ⟨25, _⟩ => ⟨S51200x2560, .f32⟩
  | .hbm, ⟨26, _⟩ => ⟨S51200x2560, .f32⟩
  | .hbm, ⟨27, _⟩ => ⟨S_, .f32⟩
  | .hbm, ⟨28, _⟩ => ⟨S2560, .f32⟩
  | .hbm, ⟨29, _⟩ => ⟨S1x2560, .f32⟩
  | .hbm, ⟨30, _⟩ => ⟨S51200x2560, .f32⟩
  | .hbm, ⟨31, _⟩ => ⟨S_, .f32⟩
  | .hbm, ⟨32, _⟩ => ⟨S51200, .f32⟩
  | .hbm, ⟨33, _⟩ => ⟨S51200x1, .f32⟩
  | .hbm, ⟨34, _⟩ => ⟨S_, .f32⟩
  | .hbm, ⟨35, _⟩ => ⟨S51200x1, .f32⟩
  | .hbm, ⟨36, _⟩ => ⟨S51200x1, .f32⟩
  | .hbm, ⟨37, _⟩ => ⟨S1x252, .f32⟩
  | .hbm, ⟨38, _⟩ => ⟨S_, .f32⟩
  | .hbm, ⟨39, _⟩ => ⟨S1x252, .f32⟩
  | .hbm, ⟨40, _⟩ => ⟨S1x252, .f32⟩
  | .hbm, ⟨41, _⟩ => ⟨S_, .f32⟩
  | .hbm, ⟨42, _⟩ => ⟨S1x252, .f32⟩
  | .hbm, ⟨43, _⟩ => ⟨S1x252, .f32⟩
  | .hbm, ⟨44, _⟩ => ⟨S51200x252, .f32⟩
  | .hbm, ⟨45, _⟩ => ⟨S51200x252, .f32⟩
  | .hbm, ⟨46, _⟩ => ⟨S51200x252, .i1⟩
  | .hbm, ⟨47, _⟩ => ⟨S_, .f32⟩
  | .hbm, ⟨48, _⟩ => ⟨S_, .f32⟩
  | .hbm, ⟨49, _⟩ => ⟨S51200x252, .f32⟩
  | .hbm, ⟨50, _⟩ => ⟨S51200x252, .f32⟩
  | .hbm, ⟨51, _⟩ => ⟨S51200x252, .f32⟩
  | .hbm, ⟨52, _⟩ => ⟨S51200x252, .f32⟩
  | .hbm, ⟨53, _⟩ => ⟨S_, .f32⟩
  | .hbm, ⟨54, _⟩ => ⟨S51200, .f32⟩
  | .hbm, ⟨55, _⟩ => ⟨S51200x1, .f32⟩
  | .hbm, ⟨56, _⟩ => ⟨S_, .f32⟩
  | .hbm, ⟨57, _⟩ => ⟨S51200x1, .f32⟩
  | .hbm, ⟨58, _⟩ => ⟨S51200x1, .f32⟩
  | .hbm, ⟨59, _⟩ => ⟨S_, .f32⟩
  | .hbm, ⟨60, _⟩ => ⟨S51200x1, .f32⟩
  | .hbm, ⟨61, _⟩ => ⟨S51200x1, .i1⟩
  | .hbm, ⟨62, _⟩ => ⟨S_, .f32⟩
  | .hbm, ⟨63, _⟩ => ⟨S51200x1, .f32⟩
  | .hbm, ⟨64, _⟩ => ⟨S51200x1, .i1⟩
  | .hbm, ⟨65, _⟩ => ⟨S51200x1, .i1⟩
  | .hbm, ⟨66, _⟩ => ⟨S_, .f32⟩
  | .hbm, ⟨67, _⟩ => ⟨S_, .f32⟩
  | .hbm, ⟨68, _⟩ => ⟨S51200x1, .f32⟩
  | .hbm, ⟨69, _⟩ => ⟨S51200x1, .f32⟩
  | .hbm, ⟨70, _⟩ => ⟨S_, .f32⟩
  | .hbm, ⟨71, _⟩ => ⟨S51200x1, .f32⟩
  | .hbm, ⟨72, _⟩ => ⟨S51200x1, .f32⟩
  | .hbm, ⟨73, _⟩ => ⟨S50x1x1024, .f32⟩
  | .hbm, ⟨74, _⟩ => ⟨S51200x1, .f32⟩
  | .hbm, ⟨75, _⟩ => ⟨S_, .f32⟩
  | .hbm, ⟨76, _⟩ => ⟨S51200x1, .f32⟩
  | .hbm, ⟨77, _⟩ => ⟨S51200x1, .f32⟩
  | .hbm, ⟨78, _⟩ => ⟨S51200x2560, .f32⟩
  | .hbm, ⟨79, _⟩ => ⟨S51200x2560, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S51200x2560, .f32⟩
  | .hbm, ⟨84, _⟩ => ⟨S51200x2560, .f32⟩
  | .hbm, ⟨85, _⟩ => ⟨S_, .f32⟩
  | .hbm, ⟨86, _⟩ => ⟨S51200x2560, .f32⟩
  | .hbm, ⟨87, _⟩ => ⟨S51200x2560, .f32⟩
  | .hbm, ⟨88, _⟩ => ⟨S50x1024x2560, .f32⟩
  | .hbm, ⟨89, _⟩ => ⟨S50x1024x2560, .fp8e5m2⟩
  | .local _ .vmem, ⟨0, _⟩ => ⟨S50x1024x2560, .f32⟩
  | .local _ .vmem, ⟨1, _⟩ => ⟨S50x1024x2560, .fp8e5m2⟩
  | _, _ => ⟨S50x1024x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_cst_7 : Ref sig .tc := ⟨.hbm, 48, rfl⟩
abbrev main_call0_v0 : Ref sig .tc := ⟨.hbm, 49, rfl⟩
abbrev main_call0_v1 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_call1_v0 : Ref sig .tc := ⟨.hbm, 67, rfl⟩
abbrev main_call1_v1 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_cst_16 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S50x1024x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x1024x2560 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Rms.Mem.lean ====
module

public import Idealize.ShloMosaic.Lib.Pipeline
public import Idealize.ShloMosaic.Lib.Scf
public import Idealize.ShloMosaic.Lib.Sig
public import Idealize.ShloMosaic.Lib.Memref
public import Idealize.ShloMosaic.PureOps
public import Mathlib.Tactic.DeriveFintype

/-! # The kernel's buffers, and programs that only load from and store to them

A kernel body is a sequence of loads and stores of rectangles of its 21 buffers. `Mem F α` is the type of such
sequences. One of them is read in two ways: as a program of the machine (`interp`), and as a function on the
buffers' contents (`run`). -/

@[expose] public section

noncomputable section

namespace Rms

open Idealize.ShloMosaic Idealize.SL.Sem

abbrev S1x1024x2560 : Shape := ⟨3, ![1, 1024, 2560]⟩
abbrev S1x2560 : Shape := ⟨2, ![1, 2560]⟩
abbrev S1x1x1024 : Shape := ⟨3, ![1, 1, 1024]⟩
abbrev S8x2560 : Shape := ⟨2, ![8, 2560]⟩
abbrev S1024x128 : Shape := ⟨2, ![1024, 128]⟩
abbrev S4x8x2560 : Shape := ⟨3, ![4, 8, 2560]⟩
abbrev S4x8x128 : Shape := ⟨3, ![4, 8, 128]⟩

/-- The kernel's buffers: the four input blocks `x`, `dy`, `gam`, `rs`, the three output blocks `dg`, `co`, `sc`,
    and the scratch buffers. The last five come in two copies, between which consecutive chunks alternate. -/
inductive Buf
  | x | dy | gam | rs | dg | co | sc | gb | acc | rb | sb
  | xs (p : Bool) | gs (p : Bool) | ds (p : Bool) | cs (p : Bool) | ms (p : Bool)
  deriving DecidableEq, Fintype

/-- A buffer's shape. -/
@[reducible] def Buf.sh : Buf → Shape
  | .x => S1x1024x2560 | .dy => S1x1024x2560 | .gam => S1x2560 | .rs => S1x1x1024
  | .dg => S1x2560 | .co => S1x1024x2560 | .sc => S1x1x1024
  | .gb => S8x2560 | .acc => S8x2560 | .rb => S1024x128 | .sb => S1024x128
  | .xs _ => S4x8x2560 | .gs _ => S4x8x2560 | .ds _ => S4x8x2560 | .cs _ => S4x8x128 | .ms _ => S4x8x128

/-- A buffer's element type. -/
@[reducible] def Buf.el : Buf → EltTy
  | .x => .bf16 | .dy => .bf16 | .co => .fp8e5m2
  | .gam => .f32 | .rs => .f32 | .dg => .f32 | .sc => .f32 | .gb => .f32 | .acc => .f32 | .rb => .f32 | .sb => .f32
  | .xs _ => .f32 | .gs _ => .f32 | .ds _ => .f32 | .cs _ => .f32 | .ms _ => .f32

variable {F : FTy → Type}

/-- A rectangle of a buffer: its size, its offset, and that it lies inside and is not empty. -/
structure Piece (b : Buf) where
  size : Fin b.sh.rank → Nat
  off : Fin b.sh.rank → Nat
  inb : ∀ a, off a + size a ≤ b.sh.size a
  pos : 0 < (Rect.unit (s := b.sh) off size inb).shape.numel

/-- The piece as a rectangle. -/
abbrev Piece.rect {b : Buf} (p : Piece b) : Rect b.sh := Rect.unit (s := b.sh) p.off p.size p.inb

/-- The input blocks, to which nothing is stored. -/
@[reducible] def Buf.isIn : Buf → Bool
  | .x => true | .dy => true | .gam => true | .rs => true | _ => false

/-- A store to the piece writes whole words, and not of an input block. -/
def Piece.Exact {b : Buf} (p : Piece b) : Prop := b.isIn = false ∧ (b.el.bits = 32 ∨ p.rect.PackedRows b.el.packing)

/-- One load or one store. -/
inductive MemE (F : FTy → Type) : Type → Type 1
  | ld {b : Buf} (p : Piece b) : MemE F (p.rect.shape.Idx → Elt F b.el)
  | st {b : Buf} (p : Piece b) (w : p.rect.shape.Idx → Elt F b.el) (h : p.Exact) : MemE F PUnit

/-- A sequence of loads and stores with a result. -/
abbrev Mem (F : FTy → Type) (α : Type) : Type 1 := Prog (MemE F) α

/-- Load a piece. -/
abbrev ld {b : Buf} (p : Piece b) : Mem F (p.rect.shape.Idx → Elt F b.el) := Prog.lift (.ld p)

/-- Store a piece, after a load of the same piece whose value nothing reads. -/
abbrev st {b : Buf} (p : Piece b) (h : p.Exact) (w : p.rect.shape.Idx → Elt F b.el) : Mem F PUnit :=
  .op (.ld p) fun _ => .op (.st p w h) .ret

/-- `N` rounds, each from the value the round before gave. -/
def loopN {σ : Type} {N : Nat} (body : (k : Nat) → k < N → σ → Mem F σ) :
    (n k : Nat) → n + k = N → σ → Mem F σ
  | 0, _, _, a => .ret a
  | n + 1, k, h, a => Prog.bind (body k (by omega) a) fun a => loopN body n (k + 1) (by omega) a

/-- The contents of all the buffers. -/
abbrev St (F : FTy → Type) : Type := (b : Buf) → b.sh.Idx → Elt F b.el

/-- The contents with one buffer's replaced. -/
def St.set (s : St F) (b : Buf) (X : b.sh.Idx → Elt F b.el) : St F := Function.update s b X

/-- What a sequence of loads and stores makes of the contents. -/
def run {α : Type} : Mem F α → St F → α × St F
  | .ret a, s => (a, s)
  | .op (.ld (b := b) p) k, s => run (k fun i => s b (p.rect.toLoadRect.idx i)) s
  | .op (.st (b := b) p w _) k, s => run (k ⟨⟩) (s.set b (p.rect.overlay (s b) w))

/-- The input blocks stay as they are. -/
theorem run_isIn {α : Type} (b : Buf) (hb : b.isIn = true) : ∀ (p : Mem F α) (s : St F), (run p s).2 b = s b
  | .ret _, _ => rfl
  | .op (.ld _) k, s => run_isIn b hb (k _) s
  | .op (.st (b := b') p w h) k, s => by
    have hne : b ≠ b' := by rintro rfl; exact absurd hb (by rw [h.1]; decide)
    exact (run_isIn b hb (k ⟨⟩) _).trans (Function.update_of_ne hne _ _)

/-- A sequence followed by another. -/
theorem run_bind {α β : Type} : ∀ (p : Mem F α) (k : α → Mem F β) (s : St F), run (p.bind k) s = run (k (run p s).1) (run p s).2
  | .ret _, _, _ => rfl
  | .op (.ld _) k', k, s => run_bind (k' _) k s
  | .op (.st _ _ _) k', k, s => run_bind (k' ⟨⟩) k _

section Machine

variable {nD : Nat} {τ : Topo} {sig : RefSig} {Λ₀ : Labels}

/-- The memrefs that stand for the buffers. -/
abbrev Refs (sig : RefSig) : Type := (b : Buf) → Memref sig .tc .vmem b.sh b.el

theorem Piece.stores {R : Refs sig} (hR : ∀ b, (R b).IsWhole) {b : Buf} (p : Piece b) (h : p.Exact) :
    ((R b).access p.rect).Stores Finset.univ := by
  rcases h.2 with h | h
  · exact View.stores_vmem_bits_univ p.pos h
  · exact View.stores_vmem p.pos ((hR b).storeExact_slice rfl _ h) (fun _ => rfl)

/-- The sequence as a program of the machine. -/
def interp (R : Refs sig) (hR : ∀ b, (R b).IsWhole) {α : Type} : Mem F α → Prog (TpuEff nD τ sig (Elt F) Λ₀ .tc) α
  | .ret a => .ret a
  | .op (.ld (b := b) p) k => .op (.load (R b) p.rect.toLoadRect (View.loadsAt_vmem p.pos)) fun v => interp R hR (k v)
  | .op (.st (b := b) p w h) k => .op (.store (R b) p.rect w Finset.univ (p.stores hR h) (.inl rfl)) fun _ => interp R hR (k ⟨⟩)

end Machine

end Rms

end

end
-- ==== Proof.Rms.Body.lean ====
module

public import proofs.«01_k».proof.Proof.Rms.Mem

/-! # The kernel body, as sequences of loads and stores

The body's passes over a chunk of 32 rows (`pass1`, `pass2`, `pass3`), its prologue, the trip of its loop and its
epilogue, each written with one round per lane group. -/

@[expose] public section

noncomputable section

namespace Rms

open Idealize.ShloMosaic Idealize.SL.Sem

abbrev S8x128 : Shape := ⟨2, ![8, 128]⟩
abbrev S1x128 : Shape := ⟨2, ![1, 128]⟩
abbrev S1x1x128 : Shape := ⟨3, ![1, 1, 128]⟩
abbrev S8 : Shape := ⟨1, ![8]⟩
abbrev S128 : Shape := ⟨1, ![128]⟩
abbrev S2560 : Shape := ⟨1, ![2560]⟩
abbrev S8x1 : Shape := ⟨2, ![8, 1]⟩
abbrev S32x128 : Shape := ⟨2, ![32, 128]⟩
abbrev S32x256 : Shape := ⟨2, ![32, 256]⟩
abbrev S1x32x256 : Shape := ⟨3, ![1, 32, 256]⟩
abbrev S1x32x128 : Shape := ⟨3, ![1, 32, 128]⟩
abbrev S1x8x128 : Shape := ⟨3, ![1, 8, 128]⟩
abbrev S4x8 : Shape := ⟨2, ![4, 8]⟩
abbrev S4x8x1 : Shape := ⟨3, ![4, 8, 1]⟩

variable {F : FTy → Type} [FloatOps F]

/-! ## The pieces the passes load and store -/

/-- A row offset at which a chunk of 32 rows begins. -/
structure RowOK (row : Nat) : Prop where
  dvd : 32 ∣ row
  le : row + 32 ≤ 1024

theorem inb2 {A B a c o0 o1 : Nat} (h0 : o0 + a ≤ A) (h1 : o1 + c ≤ B) :
    ∀ i, (![o0, o1] : Fin 2 → Nat) i + (![a, c] : Fin 2 → Nat) i ≤ (![A, B] : Fin 2 → Nat) i := by
  intro i; fin_cases i; exacts [h0, h1]

theorem inb3 {A B C a b c o0 o1 o2 : Nat} (h0 : o0 + a ≤ A) (h1 : o1 + b ≤ B) (h2 : o2 + c ≤ C) :
    ∀ i, (![o0, o1, o2] : Fin 3 → Nat) i + (![a, b, c] : Fin 3 → Nat) i ≤ (![A, B, C] : Fin 3 → Nat) i := by
  intro i; fin_cases i; exacts [h0, h1, h2]

theorem pos_of {s : Shape} (h : 0 < s.numel) : 0 < s.numel := h

/-- The whole of `gam`. -/
abbrev pGam : Piece .gam := ⟨![1, 2560], ![0, 0], inb2 (by omega) (by omega), pos_of (s := S1x2560) (by decide)⟩
/-- The whole of `dg`. -/
abbrev pDg : Piece .dg := ⟨![1, 2560], ![0, 0], inb2 (by omega) (by omega), pos_of (s := S1x2560) (by decide)⟩
/-- The whole of `gb`. -/
abbrev pGb : Piece .gb := ⟨![8, 2560], ![0, 0], inb2 (by omega) (by omega), pos_of (s := S8x2560) (by decide)⟩
/-- The whole of `acc`. -/
abbrev pAcc : Piece .acc := ⟨![8, 2560], ![0, 0], inb2 (by omega) (by omega), pos_of (s := S8x2560) (by decide)⟩
/-- A lane group of `gb`. -/
abbrev pGbL (j : Nat) (h : j < 20) : Piece .gb := ⟨![8, 128], ![0, 128 * j], inb2 (by omega) (by omega), pos_of (s := S8x128) (by decide)⟩
/-- A lane group of `acc`. -/
abbrev pAccL (j : Nat) (h : j < 20) : Piece .acc := ⟨![8, 128], ![0, 128 * j], inb2 (by omega) (by omega), pos_of (s := S8x128) (by decide)⟩
/-- A lane group of `rs`. -/
abbrev pRs (q : Nat) (h : q < 8) : Piece .rs := ⟨![1, 1, 128], ![0, 0, 128 * q], inb3 (by omega) (by omega) (by omega), pos_of (s := S1x1x128) (by decide)⟩
/-- A lane group of `sc`. -/
abbrev pSc (q : Nat) (h : q < 8) : Piece .sc := ⟨![1, 1, 128], ![0, 0, 128 * q], inb3 (by omega) (by omega) (by omega), pos_of (s := S1x1x128) (by decide)⟩
/-- Eight rows of `rb`. -/
abbrev pRb8 (q s : Nat) (hq : q < 8) (hs : s < 16) : Piece .rb :=
  ⟨![8, 128], ![128 * q + 8 * s, 0], inb2 (by omega) (by omega), pos_of (s := S8x128) (by decide)⟩
/-- Eight rows of `sb`. -/
abbrev pSb8 (q s : Nat) (hq : q < 8) (hs : s < 16) : Piece .sb :=
  ⟨![8, 128], ![128 * q + 8 * s, 0], inb2 (by omega) (by omega), pos_of (s := S8x128) (by decide)⟩
/-- A chunk of `rb`. -/
abbrev pRb (row : Nat) (h : RowOK row) : Piece .rb := ⟨![32, 128], ![row, 0], inb2 h.le (by omega), pos_of (s := S32x128) (by decide)⟩
/-- A chunk of `sb`. -/
abbrev pSb (row : Nat) (h : RowOK row) : Piece .sb := ⟨![32, 128], ![row, 0], inb2 h.le (by omega), pos_of (s := S32x128) (by decide)⟩
/-- Two lane groups of a chunk of `x`. -/
abbrev pX (row : Nat) (h : RowOK row) (j : Nat) (hj : j < 10) : Piece .x :=
  ⟨![1, 32, 256], ![0, row, 256 * j], inb3 (by omega) h.le (by omega), pos_of (s := S1x32x256) (by decide)⟩
/-- Two lane groups of a chunk of `dy`. -/
abbrev pDy (row : Nat) (h : RowOK row) (j : Nat) (hj : j < 10) : Piece .dy :=
  ⟨![1, 32, 256], ![0, row, 256 * j], inb3 (by omega) h.le (by omega), pos_of (s := S1x32x256) (by decide)⟩
/-- A lane group of a chunk of `co`. -/
abbrev pCo (row : Nat) (h : RowOK row) (j : Nat) (hj : j < 20) : Piece .co :=
  ⟨![1, 32, 128], ![0, row, 128 * j], inb3 (by omega) h.le (by omega), pos_of (s := S1x32x128) (by decide)⟩
/-- A lane group of `xs p`. -/
abbrev pXs (p : Bool) (j : Nat) (hj : j < 20) : Piece (.xs p) :=
  ⟨![4, 8, 128], ![0, 0, 128 * j], inb3 (by omega) (by omega) (by omega), pos_of (s := S4x8x128) (by decide)⟩
/-- A lane group of `gs p`. -/
abbrev pGs (p : Bool) (j : Nat) (hj : j < 20) : Piece (.gs p) :=
  ⟨![4, 8, 128], ![0, 0, 128 * j], inb3 (by omega) (by omega) (by omega), pos_of (s := S4x8x128) (by decide)⟩
/-- A lane group of `ds p`. -/
abbrev pDs (p : Bool) (j : Nat) (hj : j < 20) : Piece (.ds p) :=
  ⟨![4, 8, 128], ![0, 0, 128 * j], inb3 (by omega) (by omega) (by omega), pos_of (s := S4x8x128) (by decide)⟩
/-- The whole of `cs p`. -/
abbrev pCs (p : Bool) : Piece (.cs p) := ⟨![4, 8, 128], ![0, 0, 0], inb3 (by omega) (by omega) (by omega), pos_of (s := S4x8x128) (by decide)⟩
/-- The whole of `ms p`. -/
abbrev pMs (p : Bool) : Piece (.ms p) := ⟨![4, 8, 128], ![0, 0, 0], inb3 (by omega) (by omega) (by omega), pos_of (s := S4x8x128) (by decide)⟩

/-- The stores to `co` write whole words: a chunk's rows begin at a multiple of 32. -/
theorem pCo_exact (row : Nat) (h : RowOK row) (j : Nat) (hj : j < 20) : (pCo row h j hj).Exact := by
  refine ⟨rfl, Or.inr (Or.inr ⟨by decide, rfl, Or.inl ⟨?_, ?_⟩⟩)⟩
  · exact Dvd.dvd.trans (show 4 ∣ 32 by decide) h.dvd
  · show 4 ∣ 32; decide

/-! ## The values the passes compute -/

/-- A vector of zeros. -/
def zeros (s : Shape) : FVec F s .f32 := broadcast s (Scalar.ofBits .f32 0x00000000#32)

/-- Row group `i` of a chunk of products. -/
def rowGroup (t : FVec F S4x8x128 .f32) (i : Nat) (h : S4x8x128.Slices ![i, 0, 0] S1x8x128) : FVec F S8x128 .f32 :=
  shapeCast S8x128 (extractStridedSlice S1x8x128 ![i, 0, 0] t h) (by decide)

/-- The four row groups of a chunk of products, added. -/
def rowSum (t : FVec F S4x8x128 .f32) : FVec F S8x128 .f32 :=
  addf (addf (rowGroup t 0 (by decide)) (rowGroup t 1 (by decide))) (addf (rowGroup t 2 (by decide)) (rowGroup t 3 (by decide)))

/-- A lane group of the rows just read, in row groups. -/
def half (v : FVec F S32x256 .f32) (o : Nat) (h : S32x256.Slices ![0, o] S32x128) : FVec F S4x8x128 .f32 :=
  shapeCast S4x8x128 (extractStridedSlice S32x128 ![0, o] v h) (by decide)

/-- `gamma`'s lane group along the row groups. -/
def gammaRows (v : Vec F S8x128 .f32) : FVec F S4x8x128 .f32 :=
  broadcastTo S4x8x128 (shapeCast S1x8x128 v (by decide)) (by decide)

/-- A block of the input, widened. -/
def widen (v : Vec F S1x32x256 .bf16) : FVec F S32x256 .f32 :=
  extf .f32 (shapeCast S32x256 v (by decide)) (by decide)

/-- One step of the search for the exponent field of `z`: `m + c` where its float is not above `z`. -/
def expStep (z : FVec F S4x8x128 .f32) (m : IVec S4x8x128 32) (c : BitVec 32) : IVec S4x8x128 32 :=
  select (cmpf .olt z (bitcastToFloat .f32 (addi m (broadcast S4x8x128 c)))) m (addi m (broadcast S4x8x128 c))

/-- The search from zero, by the eight bits of the field. -/
def expSearch (z : FVec F S4x8x128 .f32) : IVec S4x8x128 32 :=
  expStep z (expStep z (expStep z (expStep z (expStep z (expStep z (expStep z (expStep z (broadcast S4x8x128 0#32)
    1073741824#32) 536870912#32) 268435456#32) 134217728#32) 67108864#32) 33554432#32) 16777216#32) 8388608#32

/-- The exponent field of `z`, all ones where `z` is at least `2 ^ 126`. -/
def expField (z : FVec F S4x8x128 .f32) : IVec S4x8x128 32 :=
  select (cmpf .olt z (broadcast S4x8x128 (Scalar.ofBits .f32 0x7E800000#32))) (expSearch z) (broadcast S4x8x128 2139095040#32)

/-- The exponent field, 126 where it is zero or all ones. -/
def expClean (m : IVec S4x8x128 32) : IVec S4x8x128 32 :=
  select (ori (cmpi .eq m (broadcast S4x8x128 0#32)) (cmpi .eq m (broadcast S4x8x128 2139095040#32)))
    (broadcast S4x8x128 1056964608#32) m

/-- The quotient from which a row's scale is read: the row maximum over the largest finite code. -/
def rowZ (v : Vec F S4x8x128 .f32) : FVec F S4x8x128 .f32 :=
  mulf (broadcastTo S4x8x128 (shapeCast S4x8x1 (shapeCast S4x8x1
      (multiReduction .maximumf [2] S4x8 v 0xFF800000#32 (by decide) (.inl rfl) rfl) (by decide)) (by decide)) (by decide))
    (broadcast S4x8x128 (Scalar.ofBits .f32 0x37924925#32))

/-- The rows' exponent fields. -/
def rowE (v : Vec F S4x8x128 .f32) : IVec S4x8x128 32 := expClean (expField (rowZ v))

/-- The rows' scales. -/
def rowScale (v : Vec F S4x8x128 .f32) : FVec F S4x8x128 .f32 :=
  bitcastToFloat .f32 (addi (rowE v) (broadcast S4x8x128 8388608#32))

/-- The rows' reciprocal scales. -/
def rowInv (v : Vec F S4x8x128 .f32) : FVec F S4x8x128 .f32 :=
  bitcastToFloat .f32 (subi (broadcast S4x8x128 2122317824#32) (rowE v))

/-- The codes of a lane group. -/
def codes (d inv : FVec F S4x8x128 .f32) : FVec F S1x32x128 .fp8e5m2 :=
  shapeCast S1x32x128 (truncf .fp8e5m2 (shapeCast S32x128
    (minimumf (broadcast S4x8x128 (Scalar.ofBits .f32 0x47600000#32))
      (maximumf (broadcast S4x8x128 (Scalar.ofBits .f32 0xC7600000#32)) (mulf d inv))) (by decide)) (by decide)) (by decide)

/-- The factor of `x` in a row's gradient. -/
def rowK (cinv : F .f32) (r c : FVec F S4x8x128 .f32) : FVec F S4x8x128 .f32 :=
  mulf (mulf r r) (broadcastTo S4x8x128 (mulf (shapeCast S4x8x1
      (multiReduction .add [2] S4x8 c 0x00000000#32 (by decide) (.inl rfl) rfl) (by decide))
    (broadcast S4x8x1 cinv)) (by decide))

/-- A tile whose row `a` holds, in all its lanes, lane `a + 8 * s` of `rl`. -/
def spreadRow (rl : FVec F S8x128 .f32) (s : Nat) : FVec F S8x128 .f32 :=
  broadcastTo S8x128 (shapeCast S8x1 (shapeCast S8x1 (multiReduction .add [1] S8
    (select (cmpi .eq (iota .tc S8x128 32 [1] (by decide)) (addi (iota .tc S8x128 32 [0] (by decide)) (broadcast S8x128 (BitVec.ofNat 32 (8 * s)))))
      rl (zeros S8x128)) 0x00000000#32 (by decide) (.inl rfl) rfl) (by decide)) (by decide)) (by decide)

/-- What of the tile `v` lies at lane `a + 8 * s` of its row `a`, and zero elsewhere. -/
def diag (v : Vec F S8x128 .f32) (s : Nat) : FVec F S8x128 .f32 :=
  select (cmpi .eq (iota .tc S8x128 32 [1] (by decide)) (addi (iota .tc S8x128 32 [0] (by decide)) (broadcast S8x128 (BitVec.ofNat 32 (8 * s)))))
    v (zeros S8x128)

/-! ## The passes -/

/-- What the first pass does with one lane group: its products go to `acc`, `x` and the weighted gradient to the
    chunk's buffers, and the products whose row sum is wanted to the running sum. -/
def lane1 (p : Bool) (r x dy : FVec F S4x8x128 .f32) (j : Nat) (hj : j < 20) (a : FVec F S4x8x128 .f32) :
    Mem F (FVec F S4x8x128 .f32) :=
  .bind (ld (pGbL j hj)) fun (gb : Vec F S8x128 .f32) =>
  .bind (st (pXs p j hj) ⟨rfl, .inl rfl⟩ (shapeCast S4x8x128 x (by decide))) fun _ =>
  .bind (st (pGs p j hj) ⟨rfl, .inl rfl⟩ (shapeCast S4x8x128 (mulf (mulf dy r) (gammaRows gb)) (by decide))) fun _ =>
  .bind (ld (pAccL j hj)) fun (d : Vec F S8x128 .f32) =>
  .bind (st (pAccL j hj) ⟨rfl, .inl rfl⟩ (shapeCast S8x128 (addf d (rowSum (mulf x (mulf dy r)))) (by decide))) fun _ =>
  .ret (addf a (mulf x (mulf (mulf dy r) (gammaRows gb))))

/-- The first pass over the chunk at `row`. -/
def pass1 (row : Nat) (h : RowOK row) (p : Bool) : Mem F PUnit :=
  .bind (ld (pRb row h)) fun (r : Vec F S32x128 .f32) =>
  .bind (loopN (N := 10) (fun j hj a =>
      .bind (ld (pX row h j hj)) fun (x : Vec F S1x32x256 .bf16) =>
      .bind (ld (pDy row h j hj)) fun (dy : Vec F S1x32x256 .bf16) =>
      .bind (lane1 p (shapeCast S4x8x128 r (by decide)) (half (widen x) 0 (by decide)) (half (widen dy) 0 (by decide)) (2 * j) (by omega) a) fun a =>
      lane1 p (shapeCast S4x8x128 r (by decide)) (half (widen x) 128 (by decide)) (half (widen dy) 128 (by decide)) (2 * j + 1) (by omega) a)
    10 0 rfl (zeros S4x8x128)) fun a =>
  st (pCs p) ⟨rfl, .inl rfl⟩ (shapeCast S4x8x128 a (by decide))

/-- The second pass over the chunk at `row`. -/
def pass2 (cinv : F .f32) (row : Nat) (h : RowOK row) (p : Bool) : Mem F PUnit :=
  .bind (ld (pRb row h)) fun (r : Vec F S32x128 .f32) =>
  .bind (ld (pCs p)) fun (c : Vec F S4x8x128 .f32) =>
  .bind (loopN (N := 20) (fun j hj (a : FVec F S4x8x128 .f32) =>
      .bind (ld (pGs p j hj)) fun (g : Vec F S4x8x128 .f32) =>
      .bind (ld (pXs p j hj)) fun (x : Vec F S4x8x128 .f32) =>
      .bind (st (pDs p j hj) ⟨rfl, .inl rfl⟩ (shapeCast S4x8x128 (subf g (mulf x (rowK cinv (shapeCast S4x8x128 r (by decide)) c))) (by decide))) fun _ =>
      .ret (maximumf a (absf (subf g (mulf x (rowK cinv (shapeCast S4x8x128 r (by decide)) c))))))
    20 0 rfl (zeros S4x8x128)) fun a =>
  st (pMs p) ⟨rfl, .inl rfl⟩ (shapeCast S4x8x128 a (by decide))

/-- The third pass over the chunk at `row`. -/
def pass3 (row : Nat) (h : RowOK row) (p : Bool) : Mem F PUnit :=
  .bind (ld (pMs p)) fun (m : Vec F S4x8x128 .f32) =>
  .bind (st (pSb row h) ⟨rfl, .inl rfl⟩ (shapeCast S32x128 (shapeCast S32x128 (rowScale m) (by decide)) (by decide))) fun _ =>
  loopN (N := 20) (fun j hj _ =>
      .bind (ld (pDs p j hj)) fun (d : Vec F S4x8x128 .f32) =>
      st (pCo row h j hj) (pCo_exact row h j hj) (codes d (rowInv m)))
    20 0 rfl ⟨⟩

/-- What the first grid point does first: `gamma` along eight rows, and `acc` cleared. -/
def initBufs : Mem F PUnit :=
  .bind (ld pGam) fun (g : Vec F S1x2560 .f32) =>
  .bind (st pGb ⟨rfl, .inl rfl⟩ (shapeCast S8x2560 (broadcastTo S8x2560 (shapeCast S1x2560 (shapeCast S1x2560 g (by decide)) (by decide)) (by decide)) (by decide))) fun _ =>
  st pAcc ⟨rfl, .inl rfl⟩ (shapeCast S8x2560 (zeros S8x2560) (by decide))

/-- The row factors, one to a row of `rb`, along its lanes. -/
def spread : Mem F PUnit :=
  loopN (N := 8) (fun q hq _ =>
    .bind (ld (pRs q hq)) fun (v : Vec F S1x1x128 .f32) =>
    loopN (N := 16) (fun s hs _ =>
        st (pRb8 q s hq hs) ⟨rfl, .inl rfl⟩ (shapeCast S8x128
          (spreadRow (broadcastTo S8x128 (shapeCast S1x128 (shapeCast S1x128 v (by decide)) (by decide)) (by decide)) s) (by decide)))
      16 0 rfl ⟨⟩)
    8 0 rfl ⟨⟩

/-- The rows' scales, from the lanes of `sb` to one row. -/
def gather : Mem F PUnit :=
  loopN (N := 8) (fun q hq _ =>
    .bind (loopN (N := 16) (fun s hs (a : FVec F S8x128 .f32) =>
        .bind (ld (pSb8 q s hq hs)) fun (v : Vec F S8x128 .f32) => .ret (addf a (diag v s)))
      16 0 rfl (zeros S8x128)) fun a =>
    st (pSc q hq) ⟨rfl, .inl rfl⟩ (shapeCast S1x1x128 (shapeCast S1x128
      (multiReduction .add [0] S128 a 0x00000000#32 (by decide) (.inl rfl) rfl) (by decide)) (by decide)))
    8 0 rfl ⟨⟩

/-- What the last grid point does last: the rows of `acc` added. -/
def finish : Mem F PUnit :=
  .bind (ld pAcc) fun (a : Vec F S8x2560 .f32) =>
  st pDg ⟨rfl, .inl rfl⟩ (shapeCast S1x2560 (multiReduction .add [0] S2560 a 0x00000000#32 (by decide) (.inl rfl) rfl) (by decide))

/-- The row at which trip `t` of the loop begins chunk `2 * t + 2 + u`. -/
def rowNew (t : Nat) (u : BitVec 32) : Nat :=
  (Scalar.indexCast (Scalar.muli (Scalar.addi (Scalar.addi (Scalar.muli 2#32 (Scf.iv 0#32 1#32 t)) 2#32) u) 32#32) : Index).toNat

/-- The row of the chunk `s` before it. -/
def rowOld (t : Nat) (u s : BitVec 32) : Nat :=
  (Scalar.indexCast (Scalar.muli (Scalar.subi (Scalar.addi (Scalar.addi (Scalar.muli 2#32 (Scf.iv 0#32 1#32 t)) 2#32) u) s) 32#32) : Index).toNat

theorem rowNew_eq : ∀ t < 15, ∀ u < 2, rowNew t (BitVec.ofNat 32 u) = 32 * (2 * t + 2 + u) := by decide +kernel

theorem rowOld_eq : ∀ t < 15, ∀ u < 2, ∀ s < 2,
    rowOld t (BitVec.ofNat 32 u) (BitVec.ofNat 32 (1 + s)) = 32 * (2 * t + 1 + u - s) := by decide +kernel

theorem rowOK (c : Nat) (h : c < 32) : RowOK (32 * c) := ⟨⟨c, rfl⟩, by omega⟩

theorem rowNew_ok (t : Nat) (ht : t < 15) (u : Nat) (hu : u < 2) : RowOK (rowNew t (BitVec.ofNat 32 u)) := by
  rw [rowNew_eq t ht u hu]; exact rowOK _ (by omega)

theorem rowOld_ok (t : Nat) (ht : t < 15) (u : Nat) (hu : u < 2) (s : Nat) (hs : s < 2) :
    RowOK (rowOld t (BitVec.ofNat 32 u) (BitVec.ofNat 32 (1 + s))) := by
  rw [rowOld_eq t ht u hu s hs]; exact rowOK _ (by omega)

/-- The prologue. -/
def pre (cinv : F .f32) : Mem F PUnit :=
  .bind spread fun _ =>
  .bind (pass1 0 (rowOK 0 (by omega)) false) fun _ =>
  .bind (pass2 cinv 0 (rowOK 0 (by omega)) false) fun _ =>
  pass1 32 (rowOK 1 (by omega)) true

/-- Trip `t` of the loop. -/
def trip (cinv : F .f32) (t : Nat) (ht : t < 15) : Mem F PUnit :=
  .bind (pass3 (rowOld t 0#32 2#32) (rowOld_ok t ht 0 (by omega) 1 (by omega)) false) fun _ =>
  .bind (pass2 cinv (rowOld t 0#32 1#32) (rowOld_ok t ht 0 (by omega) 0 (by omega)) true) fun _ =>
  .bind (pass1 (rowNew t 0#32) (rowNew_ok t ht 0 (by omega)) false) fun _ =>
  .bind (pass3 (rowOld t 1#32 2#32) (rowOld_ok t ht 1 (by omega) 1 (by omega)) true) fun _ =>
  .bind (pass2 cinv (rowOld t 1#32 1#32) (rowOld_ok t ht 1 (by omega) 0 (by omega)) false) fun _ =>
  pass1 (rowNew t 1#32) (rowNew_ok t ht 1 (by omega)) true

/-- The epilogue. -/
def post (cinv : F .f32) : Mem F PUnit :=
  .bind (pass3 960 (rowOK 30 (by omega)) false) fun _ =>
  .bind (pass2 cinv 992 (rowOK 31 (by omega)) true) fun _ =>
  .bind (pass3 992 (rowOK 31 (by omega)) true) fun _ =>
  gather

attribute [irreducible] pre trip post initBufs finish

/-- Whether a grid index is `n`, as the kernel tests it. -/
def isPoint (w n : BitVec 32) : BitVec 1 := Scalar.cmpi .ne (Scalar.extui (Scalar.cmpi .eq w n) : BitVec 32) 0#32

/-- The loop's operands. -/
abbrev theLoop : Scf.Loop 32 := ⟨0#32, 15#32, 1#32⟩

theorem theLoop_ok : theLoop.OK := by decide

theorem theLoop_trips : theLoop.trips = 15 := by decide

/-- The contents before trip `k` of the loop, from the contents `s` before the loop. -/
def tripsTo (cinv : F .f32) (s : St F) : Nat → St F
  | 0 => s
  | k + 1 => if h : k < 15 then (run (trip cinv k h) (tripsTo cinv s k)).2 else tripsTo cinv s k

theorem tripsTo_succ (cinv : F .f32) (s : St F) (k : Nat) (h : k < 15) :
    tripsTo cinv s (k + 1) = (run (trip cinv k h) (tripsTo cinv s k)).2 := by
  rw [tripsTo, dif_pos h]

theorem tripsTo_zero (cinv : F .f32) (s : St F) : tripsTo cinv s 0 = s := rfl

/-- What the body makes of the contents at grid index `w`. -/
def runBody (cinv : F .f32) (w : BitVec 32) (s : St F) : St F :=
  let s := if isPoint w 0#32 = 1#1 then (run initBufs s).2 else s
  let s := (run (pre cinv) s).2
  let s := tripsTo cinv s 15
  let s := (run (post cinv) s).2
  if isPoint w 49#32 = 1#1 then (run finish s).2 else s

theorem tripsTo_isIn (cinv : F .f32) (b : Buf) (hb : b.isIn = true) (s : St F) : ∀ k ≤ 15, tripsTo cinv s k b = s b
  | 0, _ => rfl
  | k + 1, h => by rw [tripsTo_succ cinv s k h, run_isIn b hb, tripsTo_isIn cinv b hb s k (by omega)]

theorem runBody_isIn (cinv : F .f32) (w : BitVec 32) (b : Buf) (hb : b.isIn = true) (s : St F) : runBody cinv w s b = s b := by
  unfold runBody
  split <;> split <;> simp only [run_isIn b hb, tripsTo_isIn cinv b hb _ 15 le_rfl]

attribute [irreducible] tripsTo runBody

/-- The kernel body at grid index `w`. -/
def body {nD : Nat} {τ : Topo} {sig : RefSig} {Λ₀ : Labels} (cinv : F .f32) (R : Refs sig) (hR : ∀ b, (R b).IsWhole) (w : BitVec 32) :
    Prog (TpuEff nD τ sig (Elt F) Λ₀ .tc) PUnit :=
  .bind (if isPoint w 0#32 = 1#1 then interp R hR initBufs else .ret ⟨⟩) fun _ =>
  .bind (interp R hR (pre cinv)) fun _ =>
  .bind (theLoop.for theLoop_ok ⟨⟩ fun t _ => interp R hR (trip cinv t.val (theLoop_trips ▸ t.isLt))) fun _ =>
  .bind (interp R hR (post cinv)) fun _ =>
  if isPoint w 49#32 = 1#1 then interp R hR finish else .ret ⟨⟩

end Rms

end

end
-- ==== Proof.Rms.Assoc.lean ====
module

public import Idealize.SL.Sem.Prog

/-! # Sequencing, associated to the right -/

@[expose] public section

namespace Rms

open Idealize.SL.Sem

universe u v

variable {E : Type → Type v}

theorem assoc_step {α β γ : Type} {p : Prog E α} {K : α → Prog E β} {G : β → Prog E γ} {H : α → Prog E γ}
    (h : ∀ x, (K x >>= G) = H x) : ((p >>= K) >>= G) = (p >>= H) :=
  (bind_assoc p K G).trans (congrArg _ (funext h))

theorem bind_step {α γ : Type} {p p' : Prog E α} {G H : α → Prog E γ} (hp : p = p') (h : ∀ x, G x = H x) :
    (p >>= G) = (p' >>= H) := by rw [hp, funext h]

theorem dite_tail {α β γ : Type} {c : Prop} [Decidable c] {I : Prog E PUnit} {A : c → Prog E α} {B : Prog E α} {K : α → Prog E β}
    {G : β → Prog E γ} (hA : ∀ h, A h = (I >>= fun _ => B)) :
    ((dite c A (fun _ => B) >>= K) >>= G) = ((if c then I else .ret ⟨⟩) >>= fun _ => (B >>= fun x => K x >>= G)) := by
  by_cases h : c
  · rw [dif_pos h, if_pos h, hA, bind_assoc, bind_assoc]
  · rw [dif_neg h, if_neg h, bind_assoc]; rfl

theorem tail_step {α β γ : Type} {p : Prog E α} {K : α → Prog E β} {G H : β → Prog E γ} (h : ∀ x, G x = H x) :
    (p >>= fun x => K x >>= G) = (p >>= fun x => K x >>= H) := by rw [funext h]

end Rms

end
-- ==== Proof.Rms.EqK.lean ====
module

public import proofs.«01_k».proof.Proof.Rms.Body
public import proofs.«01_k».proof.Proof.Rms.Assoc
public import proofs.«01_k».proof.Kernel
public import Idealize.ShloMosaic.Lib.Tactic

@[expose] public section

noncomputable section

namespace Rms.K

open Idealize.ShloMosaic Idealize.SL.Sem Cert.Kernel

variable {F : FTy → Type} [FloatOps F] [Facts]

set_option maxRecDepth 100000 in
theorem body_eq (i : grid0.Coords) (R : Refs sig) (hR : ∀ b, (R b).IsWhole) :
    cc0_rmsnorm_bwd (F := F) i (R .x) (hR .x) (R .dy) (hR .dy) (R .gam) (hR .gam) (R .rs) (hR .rs) (R .dg) (hR .dg) (R .co) (hR .co)
      (R .sc) (hR .sc) (R .gb) (hR .gb) (R .acc) (hR .acc) (R .rb) (hR .rb) (R .sb) (hR .sb)
      (R (.xs false)) (hR (.xs false)) (R (.xs true)) (hR (.xs true)) (R (.gs false)) (hR (.gs false)) (R (.gs true)) (hR (.gs true))
      (R (.ds false)) (hR (.ds false)) (R (.ds true)) (hR (.ds true)) (R (.cs false)) (hR (.cs false)) (R (.cs true)) (hR (.cs true))
      (R (.ms false)) (hR (.ms false)) (R (.ms true)) (hR (.ms true)) =
     body (Scalar.ofBits .f32 0x39CCCCCD#32) R hR (BitVec.ofNat 32 (i 0).val) := by
  unfold cc0_rmsnorm_bwd k0_part201 k0_part69
  refine (dite_tail (I := interp R hR initBufs) ?_).trans ?_
  · intro h
    sl_kernel_rfl
  refine bind_step (by rfl) fun _ => ?_
  apply Eq.trans
  · apply tail_step
    intro y
    unfold k0_part202
    iterate 23
      apply assoc_step
      intro x
    apply Eq.trans
    · apply assoc_step
      intro x
      exact rfl
    unfold k0_part152
    iterate 4
      apply assoc_step
      intro x
    apply assoc_step
    intro x
    exact rfl
  · sl_kernel_rfl

end Rms.K
-- ==== Proof.Rms.Wp.lean ====
module

public import proofs.«01_k».proof.Proof.Rms.Body
public import Idealize.ShloMosaic.Rules.Step
public import Idealize.ShloMosaic.Lib.Tactic
public import Idealize.ShloMosaic.Lib.Writes
public import Idealize.ShloMosaic.Lib.Pipeline.Kit

/-! # The kernel body on owned buffers

A core that owns the 21 buffers at some contents runs the body and owns them at what `runBody` makes of these. -/

@[expose] public section

noncomputable section

namespace Rms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ₀ : Labels} {F : FTy → Type}
variable {Ix : Type} [DecidableEq Ix] {Name : Type} [DecidableEq Name] {U : Type} [URA U] {Lvl : Type} [Preorder Lvl]

local notation "𝕄" => MT nD τ sig Ix (Elt F) Name U Lvl

/-- Writing a rectangle of a memref's buffer replaces what the memref reads there. -/
theorem read_write_overlay {κ : Kind} {sp : Space} {sh : Shape} {e : EltTy} (m : Memref sig κ sp sh e) (r : Rect sh)
    (f : m.view.ty.Contents (Elt F)) (w : r.shape.Idx → Elt F e) :
    m.view.read (Elt F) ((m.access r).write (Elt F) f w Finset.univ) = r.overlay (m.view.read (Elt F) f) w := by
  funext y
  by_cases hy : y ∈ r.set
  · obtain ⟨x, rfl⟩ := r.exists_idx_of_mem hy
    refine Eq.trans ?_ (Rect.overlay_emb r _ w x).symm
    exact View.read_writes_cons_emb m.view f r w [] x
  · rw [Rect.overlay_of_not_mem r _ _ hy]
    exact View.read_writes_cons_miss m.view f ⟨r, w⟩ [] y hy

/-- Core `c` owns the buffers at contents `s`. -/
def Inv (c : Dev nD) (R : Refs sig) (s : St F) : sProp 𝕄 :=
  bigSep Finset.univ fun b : Buf => owns (c : Thread nD τ) (R b) fullShare (s b)

theorem Inv_take (c : Dev nD) (R : Refs sig) (s : St F) (b : Buf) :
    (Inv c R s : sProp 𝕄) ⊢ iprop(∃ f, ⌜(R b).view.read (Elt F) f = s b⌝ ∗ ((R b).view.loc (c : Thread nD τ) ↦[(R b).view.set]{fullShare} f)
      ∗ (∀ X g, ⌜(R b).view.read (Elt F) g = X⌝ -∗ ((R b).view.loc (c : Thread nD τ) ↦[(R b).view.set]{fullShare} g) -∗ Inv c R (s.set b X))) := by
  unfold Inv
  have h : ∀ X, (bigSep Finset.univ fun b' : Buf => (owns (c : Thread nD τ) (R b') fullShare (s.set b X b') : sProp 𝕄))
      = iprop(owns (c : Thread nD τ) (R b) fullShare X ∗ bigSep (Finset.univ.erase b) fun b' : Buf => owns (c : Thread nD τ) (R b') fullShare (s b')) := by
    intro X
    rw [bigSep_erase (Finset.mem_univ b)]
    refine congrArg₂ BI.sep ?_ (bigSep_congr fun b' hb' => ?_)
    · show owns _ _ _ (Function.update s b X b) = _
      rw [Function.update_self]
    · show owns _ _ _ (Function.update s b X b') = _
      rw [Function.update_of_ne (Finset.ne_of_mem_erase hb')]
  have h0 := h (s b)
  rw [show s.set b (s b) = s from Function.update_eq_self b s] at h0
  rw [h0]
  iintro ⟨Hb, Hr⟩
  ihave Hb' := (show owns (c : Thread nD τ) (R b) fullShare (s b) ⊢ (iprop(∃ f, ⌜(R b).view.read (Elt F) f = s b⌝ ∗ ((R b).view.loc (c : Thread nD τ) ↦[(R b).view.set]{fullShare} f)) : sProp 𝕄) from .rfl) $$ Hb
  icases Hb' with ⟨%f, %hf, Hb⟩
  iexists f
  isplitr; · ipureintro; exact hf
  isplitl [Hb]; · iexact Hb
  iintro %X %g %hg Hb
  rw [h X]
  isplitl [Hb]
  · subst hg
    iapply (owns_intro (c : Thread nD τ) (R b) fullShare g); iexact Hb
  · iexact Hr

theorem set_get (s : St F) (b : Buf) : s.set b (s b) = s := Function.update_eq_self b s

variable {defs : Defs nD τ sig (Elt F) Λ₀} (𝒱 : Variants) (c : Dev nD) (bd : Option 𝒱.V) (E : Set Name)
  (R : Refs sig) (hR : ∀ b, (R b).IsWhole)

/-- A sequence of loads and stores, on owned buffers. -/
theorem wp_interp {α : Type} : ∀ (p : Mem F α) (s : St F) (Q : α → sProp 𝕄),
    iprop(Inv c R s ∗ (Inv c R (run p s).2 -∗ wp frame (wpE defs 𝒱 c bd) E (.ret (run p s).1) Q))
      ⊢ wp frame (wpE defs 𝒱 c bd) E (interp (τ := τ) (Λ₀ := Λ₀) R hR p) Q
  | .ret a, s, Q => by
    show iprop(Inv c R s ∗ (Inv c R s -∗ wp frame (wpE defs 𝒱 c bd) E (.ret a) Q)) ⊢ wp frame (wpE defs 𝒱 c bd) E (.ret a) Q
    iintro ⟨HI, HK⟩
    iapply HK; iexact HI
  | .op (.ld (b := b) p) k, s, Q => by
    iintro ⟨HI, HK⟩
    ihave HI' := (Inv_take c R s b) $$ HI
    icases HI' with ⟨%f, %hf, Hb, Hr⟩
    have hv : (R b).view.readAt (Elt F) p.rect.toLoadRect f = fun i => s b (p.rect.toLoadRect.idx i) := by rw [← hf]; rfl
    iapply (wp_load (r := p.rect.toLoadRect) 𝒱 (c : Thread nD τ) (bd := bd) (E := E) ((R b).view.setOn_subset_set _)) $$ Hb
    iintro Hb
    rw [hv]
    iapply (wp_interp (k fun i => s b (p.rect.toLoadRect.idx i)) s Q)
    isplitr [HK]
    · ihave H := Hr $$ %(s b) %f %hf Hb
      rw [set_get]
      iexact H
    · iexact HK
  | .op (.st (b := b) p w h) k, s, Q => by
    iintro ⟨HI, HK⟩
    ihave HI' := (Inv_take c R s b) $$ HI
    icases HI' with ⟨%f, %hf, Hb, Hr⟩
    iapply (wp_store (m := R b) (r := p.rect) 𝒱 (c : Thread nD τ) (bd := bd) (E := E) (((R b).access p.rect).setOn_subset_set _ |>.trans ((R b).view.set_slice_subset p.rect))) $$ Hb
    iintro Hb
    iapply (wp_interp (k ⟨⟩) (s.set b (p.rect.overlay (s b) w)) Q)
    isplitr [HK]
    · iapply Hr $$ %(p.rect.overlay (s b) w) %(((R b).access p.rect).write (Elt F) f w Finset.univ) %(by rw [read_write_overlay, hf]) Hb
    · iexact HK

/-- A sequence of loads and stores at the head of a program. -/
theorem wp_interp_bind {α β : Type} (p : Mem F α) (k : α → Prog (TpuEff nD τ sig (Elt F) Λ₀ .tc) β) (s : St F) (Q : β → sProp 𝕄) :
    iprop(Inv c R s ∗ (Inv c R (run p s).2 -∗ wp frame (wpE defs 𝒱 c bd) E (k (run p s).1) Q))
      ⊢ wp frame (wpE defs 𝒱 c bd) E (Prog.bind (interp (τ := τ) (Λ₀ := Λ₀) R hR p) k) Q := by
  have h := wp_interp (defs := defs) 𝒱 c bd E R hR p s (fun a => wp frame (wpE defs 𝒱 c bd) E (k a) Q)
  refine BIBase.Entails.trans ?_ (h.trans (Entails.of_eq (wp_bind frame (wpE defs 𝒱 c bd) E _ k Q).symm))
  iintro ⟨HI, HK⟩
  isplitl [HI]; · iexact HI
  iintro HI
  rw [wp_ret]
  imodintro
  iapply HK; iexact HI

/-- A conditional run of a sequence, at the head of a program. -/
theorem wp_if_bind {β : Type} (cnd : Prop) [Decidable cnd] (p : Mem F PUnit) (k : PUnit → Prog (TpuEff nD τ sig (Elt F) Λ₀ .tc) β)
    (s : St F) (Q : β → sProp 𝕄) :
    iprop(Inv c R s ∗ (Inv c R (if cnd then (run p s).2 else s) -∗ wp frame (wpE defs 𝒱 c bd) E (k ⟨⟩) Q))
      ⊢ wp frame (wpE defs 𝒱 c bd) E (Prog.bind (if cnd then interp (τ := τ) (Λ₀ := Λ₀) R hR p else .ret ⟨⟩) k) Q := by
  by_cases h : cnd
  · rw [if_pos h, if_pos h]
    exact wp_interp_bind 𝒱 c bd E R hR p k s Q
  · rw [if_neg h, if_neg h]
    show _ ⊢ wp frame (wpE defs 𝒱 c bd) E (k ⟨⟩) Q
    iintro ⟨HI, HK⟩
    iapply HK; iexact HI

theorem theLoop_trips_eq : Scf.trips theLoop.lb theLoop.ub theLoop.st = 15 := theLoop_trips

/-- The body, on owned buffers. -/
theorem wp_body [FloatOps F] (cinv : F .f32) (w : BitVec 32) (s : St F) (Q : PUnit → sProp 𝕄) :
    iprop(Inv c R s ∗ (Inv c R (runBody cinv w s) -∗ Q ⟨⟩))
      ⊢ wp frame (wpE defs 𝒱 c bd) E (body (τ := τ) (Λ₀ := Λ₀) cinv R hR w) Q := by
  refine BIBase.Entails.trans ?_ (wp_if_bind 𝒱 c bd E R hR (isPoint w 0#32 = 1#1) initBufs _ s Q)
  iintro ⟨HI, HK⟩
  isplitl [HI]; · iexact HI
  iintro HI
  iapply (wp_interp_bind 𝒱 c bd E R hR (pre cinv))
  isplitl [HI]; · iexact HI
  iintro HI
  generalize hs : (run (pre cinv) (if isPoint w 0#32 = 1#1 then (run initBufs s).2 else s)).2 = s₁
  iapply (Scf.wp_for_bind frame (wpE defs 𝒱 c bd) E theLoop.lb theLoop.ub theLoop.st theLoop_ok ⟨⟩
    (fun t _ => interp (τ := τ) (Λ₀ := Λ₀) R hR (trip cinv t.val (theLoop_trips ▸ t.isLt)))
    (fun k _ => Inv c R (tripsTo cinv s₁ k)) ?_) $$ [HI]
  · intro t acc
    refine BIBase.Entails.trans ?_ (wp_interp 𝒱 c bd E R hR (trip cinv t.val (theLoop_trips ▸ t.isLt)) (tripsTo cinv s₁ t.val) _)
    iintro HI
    isplitl [HI]; · iexact HI
    rw [tripsTo_succ cinv s₁ t.val (theLoop_trips ▸ t.isLt), wp_ret]
    iintro HI
    imodintro
    iexact HI
  · rw [tripsTo_zero]; iexact HI
  iintro %u HI
  iapply (wp_interp_bind 𝒱 c bd E R hR (post cinv))
  isplitl [HI]; · iexact HI
  iintro HI
  subst hs
  by_cases hw : isPoint w 49#32 = 1#1
  · rw [if_pos hw]
    iapply (wp_interp 𝒱 c bd E R hR finish)
    isplitl [HI]; · iexact HI
    iintro HI
    rw [wp_ret]
    imodintro
    iapply HK
    unfold runBody
    rw [if_pos hw, theLoop_trips_eq]
    iexact HI
  · rw [if_neg hw, wp_ret]
    imodintro
    iapply HK
    unfold runBody
    rw [if_neg hw, theLoop_trips_eq]
    iexact HI

omit [Preorder Lvl] in
/-- The buffers conjoined one by one. -/
theorem Inv_eq (c : Dev nD) (R : Refs sig) (s : St F) : (Inv c R s : sProp 𝕄) =
    iprop(owns (c : Thread nD τ) (R .x) fullShare (s .x) ∗ owns (c : Thread nD τ) (R .dy) fullShare (s .dy)
      ∗ owns (c : Thread nD τ) (R .gam) fullShare (s .gam) ∗ owns (c : Thread nD τ) (R .rs) fullShare (s .rs)
      ∗ owns (c : Thread nD τ) (R .dg) fullShare (s .dg) ∗ owns (c : Thread nD τ) (R .co) fullShare (s .co)
      ∗ owns (c : Thread nD τ) (R .sc) fullShare (s .sc) ∗ owns (c : Thread nD τ) (R .gb) fullShare (s .gb)
      ∗ owns (c : Thread nD τ) (R .acc) fullShare (s .acc) ∗ owns (c : Thread nD τ) (R .rb) fullShare (s .rb)
      ∗ owns (c : Thread nD τ) (R .sb) fullShare (s .sb)
      ∗ owns (c : Thread nD τ) (R (.xs false)) fullShare (s (.xs false)) ∗ owns (c : Thread nD τ) (R (.xs true)) fullShare (s (.xs true))
      ∗ owns (c : Thread nD τ) (R (.gs false)) fullShare (s (.gs false)) ∗ owns (c : Thread nD τ) (R (.gs true)) fullShare (s (.gs true))
      ∗ owns (c : Thread nD τ) (R (.ds false)) fullShare (s (.ds false)) ∗ owns (c : Thread nD τ) (R (.ds true)) fullShare (s (.ds true))
      ∗ owns (c : Thread nD τ) (R (.cs false)) fullShare (s (.cs false)) ∗ owns (c : Thread nD τ) (R (.cs true)) fullShare (s (.cs true))
      ∗ owns (c : Thread nD τ) (R (.ms false)) fullShare (s (.ms false)) ∗ owns (c : Thread nD τ) (R (.ms true)) fullShare (s (.ms true))) :=
  Idealize.SL.BI.bigSep_univ_eq_bigSepL ([.x, .dy, .gam, .rs, .dg, .co, .sc, .gb, .acc, .rb, .sb, .xs false, .xs true, .gs false, .gs true,
    .ds false, .ds true, .cs false, .cs true,   .ms false, .ms true] : List Buf) (by decide) (by decide) _

/-- Contents given buffer by buffer. -/
def mkSt (x dy : S1x1024x2560.Idx → Elt F .bf16) (gam : S1x2560.Idx → Elt F .f32) (rs : S1x1x1024.Idx → Elt F .f32)
    (dg : S1x2560.Idx → Elt F .f32) (co : S1x1024x2560.Idx → Elt F .fp8e5m2) (sc : S1x1x1024.Idx → Elt F .f32)
    (gb acc : S8x2560.Idx → Elt F .f32) (rb sb : S1024x128.Idx → Elt F .f32) (xa xb ga gb2 da db : S4x8x2560.Idx → Elt F .f32)
    (ca cb ma mb : S4x8x128.Idx → Elt F .f32) : St F
  | .x => x | .dy => dy | .gam => gam | .rs => rs | .dg => dg | .co => co | .sc => sc
  | .gb => gb | .acc => acc | .rb => rb | .sb => sb
  | .xs false => xa | .xs true => xb | .gs false => ga | .gs true => gb2 | .ds false => da | .ds true => db
  | .cs false => ca | .cs true => cb | .ms false => ma | .ms true => mb

end Rms

end

end
-- ==== Proof.Rms.FrameK.lean ====
module

public import proofs.«01_k».proof.Proof.Rms.EqK
public import proofs.«01_k».proof.Proof.Rms.Wp
public import proofs.«01_k».proof.Proof.Gen.Kernel
public import proofs.«01_k».proof.Proof.Gen.Kernel.Launch
public import proofs.«01_k».proof.Proof.Gen.Kernel.Points
public import proofs.«01_k».proof.Proof.Gen.Kernel.Frame
public import Idealize.ShloMosaic.Adequacy
public import Idealize.ShloMosaic.Init

/-! # The kernel leaves its arguments as they are -/

@[expose] public section

noncomputable section

namespace Rms.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ) ℕ

/-- The buffers of the body at point `t`. -/
def refs (t : Fin cfg0.N) : Refs sig
  | .x => st0_0 t | .dy => st0_1 t | .gam => st0_2 t | .rs => st0_3 t | .dg => st0_4 t | .co => st0_5 t | .sc => st0_6 t
  | .gb => Memref.whole cc0_scratch0 | .acc => Memref.whole cc0_scratch1 | .rb => Memref.whole cc0_scratch2 | .sb => Memref.whole cc0_scratch3
  | .xs false => Memref.whole cc0_scratch4 | .xs true => Memref.whole cc0_scratch5
  | .gs false => Memref.whole cc0_scratch6 | .gs true => Memref.whole cc0_scratch7
  | .ds false => Memref.whole cc0_scratch8 | .ds true => Memref.whole cc0_scratch9
  | .cs false => Memref.whole cc0_scratch10 | .cs true => Memref.whole cc0_scratch11
  | .ms false => Memref.whole cc0_scratch12 | .ms true => Memref.whole cc0_scratch13

theorem refs_whole (t : Fin cfg0.N) : ∀ b, (refs t b).IsWhole
  | .x => hstage0_0 ((cfg0.slots t 0).cast nbuf0_0) | .dy => hstage0_1 ((cfg0.slots t 1).cast nbuf0_1)
  | .gam => hstage0_2 ((cfg0.slots t 2).cast nbuf0_2) | .rs => hstage0_3 ((cfg0.slots t 3).cast nbuf0_3)
  | .dg => hstage0_4 ((cfg0.slots t 4).cast nbuf0_4) | .co => hstage0_5 ((cfg0.slots t 5).cast nbuf0_5)
  | .sc => hstage0_6 ((cfg0.slots t 6).cast nbuf0_6)
  | .gb => Memref.isWhole_whole _ | .acc => Memref.isWhole_whole _ | .rb => Memref.isWhole_whole _ | .sb => Memref.isWhole_whole _
  | .xs false => Memref.isWhole_whole _ | .xs true => Memref.isWhole_whole _
  | .gs false => Memref.isWhole_whole _ | .gs true => Memref.isWhole_whole _
  | .ds false => Memref.isWhole_whole _ | .ds true => Memref.isWhole_whole _
  | .cs false => Memref.isWhole_whole _ | .cs true => Memref.isWhole_whole _
  | .ms false => Memref.isWhole_whole _ | .ms true => Memref.isWhole_whole _

/-- The grid index of point `t`. -/
abbrev point (t : Fin cfg0.N) : BitVec 32 := BitVec.ofNat 32 (grid0.coords t 0).val

/-- The constant the kernel multiplies a row's sum by. -/
abbrev cinv : F .f32 := Scalar.ofBits .f32 0x39CCCCCD#32

/-- The body at a point is the sequence of passes. -/
theorem bodyAt_eq (t : Fin cfg0.N) : bodyAt0 (F := F) t = body cinv (refs t) (refs_whole t) (point t) :=
  body_eq (grid0.coords t) (refs t) (refs_whole t)

variable (m : (ℓ : Loc nD τ sig) → Idealize.ShloMosaic.Buf (Elt F) ℓ) (ρ : Dev nD → PrngReg)

/-- The proof data: input blocks stay in place; nothing is said of the outputs. -/
def fdats (_ : Fin 1) (c : Dev nD) : Dat τ (Elt F) Unit ℕ (UR sig nD τ) ℕ cfg0 c where
  A := fun w => V m c (Pipeline.arrRef spec0 w)
  after := fun w t => match w with
    | 0 => iblk m c 0 t | 1 => iblk m c 1 t | 2 => iblk m c 2 t | 3 => iblk m c 3 t
    | _ => fun _ => Classical.arbitrary _
  Φ := fun _ => Pipeline.ΦA spec0 c
  q := fun _ => fullShare
  owed := fun _ => 0

/-- The windows of which nothing is said: the outputs. -/
def outs : Fin 7 → Bool := fun | 0 => false | 1 => false | 2 => false | 3 => false | _ => true

/-- What the body is given at a point. -/
def fpre (c : Dev nD) (t : Fin cfg0.N) : sProp 𝕄 :=
  iprop(Pipeline.ΦA spec0 c ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X))

/-- What the body gives back. -/
def fpost (c : Dev nD) (t : Fin cfg0.N) : sProp 𝕄 :=
  iprop(Pipeline.ΦA spec0 c ∗ (fdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ X, owns (c : Thread nD τ) (st0_4 t) fullShare X)
    ∗ (∃ X, owns (c : Thread nD τ) (st0_5 t) fullShare X)
    ∗ (∃ X, owns (c : Thread nD τ) (st0_6 t) fullShare X))

theorem fbody (c : Dev nD) (t : Fin cfg0.N) :
    fpre m c t ⊢ wp frame (wpE (defs₀ (F := F)) Variants.none c none) Set.univ (bodyAt0 t) (fun _ => fpost m c t) := by
  rw [bodyAt_eq]
  unfold fpre fpost Pipeline.ΦA
  rw [scopedRest0_eq]
  iintro ⟨⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, %f13, H13⟩, Hp⟩,
    HW, ⟨%d0, W0⟩, ⟨%d1, W1⟩, ⟨%d2, W2⟩, ⟨%d3, W3⟩, ⟨%X4, W4⟩, ⟨%X5, W5⟩, %X6, W6⟩
  rw [before0_0_of m (fdats m 0 c) rfl (fun _ => rfl), before0_1_of m (fdats m 0 c) rfl (fun _ => rfl),
    before0_2_of m (fdats m 0 c) rfl (fun _ => rfl), before0_3_of m (fdats m 0 c) rfl (fun _ => rfl)]
  have hin := fun b hb => runBody_isIn (cinv (F := F)) (point t) b hb
    (mkSt (iblk m c 0 t) (iblk m c 1 t) (iblk m c 2 t) (iblk m c 3 t) X4 X5 X6 f0 f1 f2 f3 f4 f5 f6 f7 f8 f9 f10 f11 f12 f13)
  iapply (wp_body Variants.none c none Set.univ (refs t) (refs_whole t) cinv (point t)
    (mkSt (iblk m c 0 t) (iblk m c 1 t) (iblk m c 2 t) (iblk m c 3 t) X4 X5 X6 f0 f1 f2 f3 f4 f5 f6 f7 f8 f9 f10 f11 f12 f13))
  isplitr [HW Hp]
  · rw [Inv_eq]
    simp only [refs, owns_whole, mkSt]
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13
  rw [Inv_eq, hin .x rfl, hin .dy rfl, hin .gam rfl, hin .rs rfl]
  generalize runBody (F := F) cinv (point t) _ = s'
  simp only [refs, owns_whole, mkSt]
  iintro ⟨W0, W1, W2, W3, W4, W5, W6, H0, H1, H2, H3, H4, H5, H6, H7, H8, H9, H10, H11, H12, H13⟩
  isplitr [HW W0 W1 W2 W3 W4 W5 W6]
  · isplitr [Hp]
    · isplitl [H0]
      · iexists _; iexact H0
      isplitl [H1]
      · iexists _; iexact H1
      isplitl [H2]
      · iexists _; iexact H2
      isplitl [H3]
      · iexists _; iexact H3
      isplitl [H4]
      · iexists _; iexact H4
      isplitl [H5]
      · iexists _; iexact H5
      isplitl [H6]
      · iexists _; iexact H6
      isplitl [H7]
      · iexists _; iexact H7
      isplitl [H8]
      · iexists _; iexact H8
      isplitl [H9]
      · iexists _; iexact H9
      isplitl [H10]
      · iexists _; iexact H10
      isplitl [H11]
      · iexists _; iexact H11
      isplitl [H12]
      · iexists _; iexact H12
      iexists _; iexact H13
    · iexact Hp
  isplitl [HW]
  · iexact HW
  isplitl [W0]
  · iexact W0
  isplitl [W1]
  · iexact W1
  isplitl [W2]
  · iexact W2
  isplitl [W3]
  · iexact W3
  isplitl [W4]
  · iexists _; iexact W4
  isplitl [W5]
  · iexists _; iexact W5
  iexists _; iexact W6

/-- The body obligation of every point. -/
theorem fobligation (c : Dev nD) :
    BodyObligationLoose (fdats m 0 c) (defs₀ (F := F)) Variants.none () Set.univ outs := fun t => by
  rw [bigSep_W0, bigSep_W0]
  show fpre m c t ⊢ wp frame (wpE (defs₀ (F := F)) Variants.none c none) Set.univ (bodyAt0 t) (fun _ => fpost m c t)
  exact fbody m c t

/-- Every run ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_track_forget cfgs (fdats m) 0 launch0 defs₀ Variants.none outs m ρ main (fobligation m)
    (fun c w => by fin_cases w <;> rfl) (fun _ _ => rfl) (V m) (hmain m _) (fun _ _ => rfl) (fun _ => .rfl) (fun _ => .rfl) _
    fun r h => ⟨fun c =>
      ⟨(Pipeline.RDat.FramePost.arr_in h.1 c 0 rfl).trans (V_main_arg0 m c),
        (Pipeline.RDat.FramePost.arr_in h.1 c 1 rfl).trans (V_main_arg1 m c),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c)⟩, h.2⟩

end Rms.K

end

end
-- ==== Proof.Rms.EqI.lean ====
module

public import proofs.«01_k».proof.Proof.Rms.Body
public import proofs.«01_k».proof.Proof.Rms.Assoc
public import proofs.«01_k».proof.KernelIdeal
public import Idealize.ShloMosaic.Lib.Tactic

@[expose] public section

noncomputable section

namespace Rms.I

open Idealize.ShloMosaic Idealize.SL.Sem Cert.KernelIdeal

variable {F : FTy → Type} [FloatOps F] [Named F] [Facts]

set_option maxRecDepth 100000 in
theorem body_eq (i : grid0.Coords) (R : Refs sig) (hR : ∀ b, (R b).IsWhole) :
    cc0_rmsnorm_bwd (F := F) i (R .x) (hR .x) (R .dy) (hR .dy) (R .gam) (hR .gam) (R .rs) (hR .rs) (R .dg) (hR .dg) (R .co) (hR .co)
      (R .sc) (hR .sc) (R .gb) (hR .gb) (R .acc) (hR .acc) (R .rb) (hR .rb) (R .sb) (hR .sb)
      (R (.xs false)) (hR (.xs false)) (R (.xs true)) (hR (.xs true)) (R (.gs false)) (hR (.gs false)) (R (.gs true)) (hR (.gs true))
      (R (.ds false)) (hR (.ds false)) (R (.ds true)) (hR (.ds true)) (R (.cs false)) (hR (.cs false)) (R (.cs true)) (hR (.cs true))
      (R (.ms false)) (hR (.ms false)) (R (.ms true)) (hR (.ms true)) =
     body (Named.named κ "inv_d" 0x39CCCCCD#32) R hR (BitVec.ofNat 32 (i 0).val) := by
  unfold cc0_rmsnorm_bwd k0_part201 k0_part69
  refine (dite_tail (I := interp R hR initBufs) ?_).trans ?_
  · intro h
    sl_kernel_rfl
  refine bind_step (by rfl) fun _ => ?_
  apply Eq.trans
  · apply tail_step
    intro y
    unfold k0_part202
    iterate 23
      apply assoc_step
      intro x
    apply Eq.trans
    · apply assoc_step
      intro x
      exact rfl
    unfold k0_part152
    iterate 4
      apply assoc_step
      intro x
    apply assoc_step
    intro x
    exact rfl
  · sl_kernel_rfl

end Rms.I
-- ==== Proof.Rms.FrameI.lean ====
module

public import proofs.«01_k».proof.Proof.Rms.EqI
public import proofs.«01_k».proof.Proof.Rms.Wp
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

/-! # The kernel leaves its arguments as they are -/

@[expose] public section

noncomputable section

namespace Rms.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F] [∀ e, Nonempty (Elt F e)]

local notation "𝕄" => MT nD τ sig Unit (Elt F) ℕ (UR sig nD τ) ℕ

/-- The buffers of the body at point `t`. -/
def refs (t : Fin cfg0.N) : Refs sig
  | .x => st0_0 t | .dy => st0_1 t | .gam => st0_2 t | .rs => st0_3 t | .dg => st0_4 t | .co => st0_5 t | .sc => st0_6 t
  | .gb => Memref.whole cc0_scratch0 | .acc => Memref.whole cc0_scratch1 | .rb => Memref.whole cc0_scratch2 | .sb => Memref.whole cc0_scratch3
  | .xs false => Memref.whole cc0_scratch4 | .xs true => Memref.whole cc0_scratch5
  | .gs false => Memref.whole cc0_scratch6 | .gs true => Memref.whole cc0_scratch7
  | .ds false => Memref.whole cc0_scratch8 | .ds true => Memref.whole cc0_scratch9
  | .cs false => Memref.whole cc0_scratch10 | .cs true => Memref.whole cc0_scratch11
  | .ms false => Memref.whole cc0_scratch12 | .ms true => Memref.whole cc0_scratch13

theorem refs_whole (t : Fin cfg0.N) : ∀ b, (refs t b).IsWhole
  | .x => hstage0_0 ((cfg0.slots t 0).cast nbuf0_0) | .dy => hstage0_1 ((cfg0.slots t 1).cast nbuf0_1)
  | .gam => hstage0_2 ((cfg0.slots t 2).cast nbuf0_2) | .rs => hstage0_3 ((cfg0.slots t 3).cast nbuf0_3)
  | .dg => hstage0_4 ((cfg0.slots t 4).cast nbuf0_4) | .co => hstage0_5 ((cfg0.slots t 5).cast nbuf0_5)
  | .sc => hstage0_6 ((cfg0.slots t 6).cast nbuf0_6)
  | .gb => Memref.isWhole_whole _ | .acc => Memref.isWhole_whole _ | .rb => Memref.isWhole_whole _ | .sb => Memref.isWhole_whole _
  | .xs false => Memref.isWhole_whole _ | .xs true => Memref.isWhole_whole _
  | .gs false => Memref.isWhole_whole _ | .gs true => Memref.isWhole_whole _
  | .ds false => Memref.isWhole_whole _ | .ds true => Memref.isWhole_whole _
  | .cs false => Memref.isWhole_whole _ | .cs true => Memref.isWhole_whole _
  | .ms false => Memref.isWhole_whole _ | .ms true => Memref.isWhole_whole _

/-- The grid index of point `t`. -/
abbrev point (t : Fin cfg0.N) : BitVec 32 := BitVec.ofNat 32 (grid0.coords t 0).val

/-- The constant the kernel multiplies a row's sum by. -/
abbrev cinv : F .f32 := Named.named κ "inv_d" 0x39CCCCCD#32

/-- The body at a point is the sequence of passes. -/
theorem bodyAt_eq (t : Fin cfg0.N) : bodyAt0 (F := F) t = body cinv (refs t) (refs_whole t) (point t) :=
  body_eq (grid0.coords t) (refs t) (refs_whole t)

variable (m : (ℓ : Loc nD τ sig) → Idealize.ShloMosaic.Buf (Elt F) ℓ) (ρ : Dev nD → PrngReg)

/-- The proof data: input blocks stay in place; nothing is said of the outputs. -/
def fdats (_ : Fin 1) (c : Dev nD) : Dat τ (Elt F) Unit ℕ (UR sig nD τ) ℕ cfg0 c where
  A := fun w => V m c (Pipeline.arrRef spec0 w)
  after := fun w t => match w with
    | 0 => iblk m c 0 t | 1 => iblk m c 1 t | 2 => iblk m c 2 t | 3 => iblk m c 3 t
    | _ => fun _ => Classical.arbitrary _
  Φ := fun _ => Pipeline.ΦA spec0 c
  q := fun _ => fullShare
  owed := fun _ => 0

/-- The windows of which nothing is said: the outputs. -/
def outs : Fin 7 → Bool := fun | 0 => false | 1 => false | 2 => false | 3 => false | _ => true

/-- What the body is given at a point. -/
def fpre (c : Dev nD) (t : Fin cfg0.N) : sProp 𝕄 :=
  iprop(Pipeline.ΦA spec0 c ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X))

/-- What the body gives back. -/
def fpost (c : Dev nD) (t : Fin cfg0.N) : sProp 𝕄 :=
  iprop(Pipeline.ΦA spec0 c ∗ (fdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ X, owns (c : Thread nD τ) (st0_4 t) fullShare X)
    ∗ (∃ X, owns (c : Thread nD τ) (st0_5 t) fullShare X)
    ∗ (∃ X, owns (c : Thread nD τ) (st0_6 t) fullShare X))

theorem fbody (c : Dev nD) (t : Fin cfg0.N) :
    fpre m c t ⊢ wp frame (wpE (defs₀ (F := F)) Variants.none c none) Set.univ (bodyAt0 t) (fun _ => fpost m c t) := by
  rw [bodyAt_eq]
  unfold fpre fpost Pipeline.ΦA
  rw [scopedRest0_eq]
  iintro ⟨⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, %f13, H13⟩, Hp⟩,
    HW, ⟨%d0, W0⟩, ⟨%d1, W1⟩, ⟨%d2, W2⟩, ⟨%d3, W3⟩, ⟨%X4, W4⟩, ⟨%X5, W5⟩, %X6, W6⟩
  rw [before0_0_of m (fdats m 0 c) rfl (fun _ => rfl), before0_1_of m (fdats m 0 c) rfl (fun _ => rfl),
    before0_2_of m (fdats m 0 c) rfl (fun _ => rfl), before0_3_of m (fdats m 0 c) rfl (fun _ => rfl)]
  have hin := fun b hb => runBody_isIn (cinv (F := F)) (point t) b hb
    (mkSt (iblk m c 0 t) (iblk m c 1 t) (iblk m c 2 t) (iblk m c 3 t) X4 X5 X6 f0 f1 f2 f3 f4 f5 f6 f7 f8 f9 f10 f11 f12 f13)
  iapply (wp_body Variants.none c none Set.univ (refs t) (refs_whole t) cinv (point t)
    (mkSt (iblk m c 0 t) (iblk m c 1 t) (iblk m c 2 t) (iblk m c 3 t) X4 X5 X6 f0 f1 f2 f3 f4 f5 f6 f7 f8 f9 f10 f11 f12 f13))
  isplitr [HW Hp]
  · rw [Inv_eq]
    simp only [refs, owns_whole, mkSt]
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13
  rw [Inv_eq, hin .x rfl, hin .dy rfl, hin .gam rfl, hin .rs rfl]
  generalize runBody (F := F) cinv (point t) _ = s'
  simp only [refs, owns_whole, mkSt]
  iintro ⟨W0, W1, W2, W3, W4, W5, W6, H0, H1, H2, H3, H4, H5, H6, H7, H8, H9, H10, H11, H12, H13⟩
  isplitr [HW W0 W1 W2 W3 W4 W5 W6]
  · isplitr [Hp]
    · isplitl [H0]
      · iexists _; iexact H0
      isplitl [H1]
      · iexists _; iexact H1
      isplitl [H2]
      · iexists _; iexact H2
      isplitl [H3]
      · iexists _; iexact H3
      isplitl [H4]
      · iexists _; iexact H4
      isplitl [H5]
      · iexists _; iexact H5
      isplitl [H6]
      · iexists _; iexact H6
      isplitl [H7]
      · iexists _; iexact H7
      isplitl [H8]
      · iexists _; iexact H8
      isplitl [H9]
      · iexists _; iexact H9
      isplitl [H10]
      · iexists _; iexact H10
      isplitl [H11]
      · iexists _; iexact H11
      isplitl [H12]
      · iexists _; iexact H12
      iexists _; iexact H13
    · iexact Hp
  isplitl [HW]
  · iexact HW
  isplitl [W0]
  · iexact W0
  isplitl [W1]
  · iexact W1
  isplitl [W2]
  · iexact W2
  isplitl [W3]
  · iexact W3
  isplitl [W4]
  · iexists _; iexact W4
  isplitl [W5]
  · iexists _; iexact W5
  iexists _; iexact W6

/-- The body obligation of every point. -/
theorem fobligation (c : Dev nD) :
    BodyObligationLoose (fdats m 0 c) (defs₀ (F := F)) Variants.none () Set.univ outs := fun t => by
  rw [bigSep_W0, bigSep_W0]
  show fpre m c t ⊢ wp frame (wpE (defs₀ (F := F)) Variants.none c none) Set.univ (bodyAt0 t) (fun _ => fpost m c t)
  exact fbody m c t

/-- Every run ends, with the arguments unchanged and every semaphore at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_track_forget cfgs (fdats m) 0 launch0 defs₀ Variants.none outs m ρ main (fobligation m)
    (fun c w => by fin_cases w <;> rfl) (fun _ _ => rfl) (V m) (hmain m _) (fun _ _ => rfl) (fun _ => .rfl) (fun _ => .rfl) _
    fun r h => ⟨fun c =>
      ⟨(Pipeline.RDat.FramePost.arr_in h.1 c 0 rfl).trans (V_main_arg0 m c),
        (Pipeline.RDat.FramePost.arr_in h.1 c 1 rfl).trans (V_main_arg1 m c),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c)⟩, h.2⟩

end Rms.I

end

end
-- ==== Proof.Rms.Run.lean ====
module

public import proofs.«01_k».proof.Proof.Rms.Body
public import Idealize.ShloMosaic.Lib.Pointwise

/-! # Running sequences of loads and stores: what stays, what a loop keeps, what a store changes -/

@[expose] public section

noncomputable section

namespace Rms

open Idealize.ShloMosaic Idealize.SL.Sem Idealize.ShloMosaic.Pointwise

/-! ## Vectors given by functions of the indices -/

/-- `v` is the restriction of `V` to the rows and columns of its shape. -/
def Is2 {α : Type} {A B : Nat} (v : (⟨2, ![A, B]⟩ : Shape).Idx → α) (V : Nat → Nat → α) : Prop :=
  ∀ (i : Fin A) (j : Fin B), v (ix2 i j) = V i.val j.val

/-- The same for three axes. -/
def Is3 {α : Type} {A B C : Nat} (v : (⟨3, ![A, B, C]⟩ : Shape).Idx → α) (V : Nat → Nat → Nat → α) : Prop :=
  ∀ (i : Fin A) (j : Fin B) (k : Fin C), v (ix3 i j k) = V i.val j.val k.val

/-- Where `P` holds, `v` is `V`. -/
def On2 {α : Type} {A B : Nat} (v : (⟨2, ![A, B]⟩ : Shape).Idx → α) (P : Nat → Nat → Prop) (V : Nat → Nat → α) : Prop :=
  ∀ (i : Fin A) (j : Fin B), P i.val j.val → v (ix2 i j) = V i.val j.val

/-- The same for three axes. -/
def On3 {α : Type} {A B C : Nat} (v : (⟨3, ![A, B, C]⟩ : Shape).Idx → α) (P : Nat → Nat → Nat → Prop) (V : Nat → Nat → Nat → α) : Prop :=
  ∀ (i : Fin A) (j : Fin B) (k : Fin C), P i.val j.val k.val → v (ix3 i j k) = V i.val j.val k.val

variable {F : FTy → Type}

@[simp] theorem set_self (s : St F) (b : Buf) (X) : (s.set b X) b = X := Function.update_self _ _ _

theorem set_ne (s : St F) {b b' : Buf} (X) (h : b' ≠ b) : (s.set b X) b' = s b' := Function.update_of_ne h _ _

theorem run_ld {α : Type} {b : Buf} (p : Piece b) (k : (p.rect.shape.Idx → Elt F b.el) → Mem F α) (s : St F) :
    run (.bind (ld p) k) s = run (k fun i => s b (p.rect.toLoadRect.idx i)) s := rfl

theorem run_st {α : Type} {b : Buf} (p : Piece b) (h) (w) (k : PUnit → Mem F α) (s : St F) :
    run (.bind (st p h w) k) s = run (k ⟨⟩) (s.set b (p.rect.overlay (s b) w)) := rfl

theorem run_st' {b : Buf} (p : Piece b) (h) (w) (s : St F) : run (st p h w) s = (⟨⟩, s.set b (p.rect.overlay (s b) w)) := rfl

/-! ## What stays -/

/-- The sequence leaves the buffer as it is. -/
def Keeps {α : Type} (b : Buf) (p : Mem F α) : Prop := ∀ s, (run p s).2 b = s b

theorem keeps_ret {α : Type} (b : Buf) (a : α) : Keeps (F := F) b (.ret a) := fun _ => rfl

theorem keeps_bind {α β : Type} {b : Buf} {p : Mem F α} {k : α → Mem F β} (hp : Keeps b p) (hk : ∀ a, Keeps b (k a)) :
    Keeps b (.bind p k) := fun s => by rw [run_bind, hk, hp]

theorem keeps_ld {b b' : Buf} (p : Piece b') : Keeps (F := F) b (ld p) := fun _ => rfl

theorem keeps_st {b b' : Buf} (p : Piece b') (h) (w) (hb : b ≠ b') : Keeps (F := F) b (st p h w) := fun s => set_ne s _ hb

theorem keeps_loopN {σ : Type} {N : Nat} {b : Buf} {body : (k : Nat) → k < N → σ → Mem F σ} (h : ∀ k hk a, Keeps b (body k hk a)) :
    ∀ n k e a, Keeps b (loopN body n k e a)
  | 0, _, _, _ => keeps_ret b _
  | n + 1, k, _, a => keeps_bind (h k _ a) fun a => keeps_loopN h n (k + 1) _ a

/-! ## Loops -/

/-- What every round of a loop keeps holds after it. -/
theorem run_loopN {σ : Type} {N : Nat} (I : Nat → σ → St F → Prop) {body : (k : Nat) → k < N → σ → Mem F σ}
    (h : ∀ k (hk : k < N) a s, I k a s → I (k + 1) (run (body k hk a) s).1 (run (body k hk a) s).2) :
    ∀ n k e a s, I k a s → I N (run (loopN body n k e a) s).1 (run (loopN body n k e a) s).2
  | 0, k, e, a, s, hI => by
    obtain rfl : k = N := by omega
    exact hI
  | n + 1, k, e, a, s, hI => by
    rw [loopN, run_bind]
    exact run_loopN I h n (k + 1) _ _ _ (h k _ a s hI)

/-! ## Stores and loads of rectangles -/

theorem overlay2 {α : Type} {A B a c o0 o1 : Nat} (inb) (f : (⟨2, ![A, B]⟩ : Shape).Idx → α) (w : (⟨2, ![a, c]⟩ : Shape).Idx → α)
    (i : Fin A) (j : Fin B) :
    (Rect.unit (s := ⟨2, ![A, B]⟩) ![o0, o1] ![a, c] inb).overlay f w (ix2 i j)
      = if h : (o0 ≤ i.val ∧ i.val < o0 + a) ∧ (o1 ≤ j.val ∧ j.val < o1 + c)
        then w (ix2 ⟨i.val - o0, by omega⟩ ⟨j.val - o1, by omega⟩) else f (ix2 i j) := by
  split_ifs with h
  · have e : ix2 i j = (Rect.unit (s := ⟨2, ![A, B]⟩) ![o0, o1] ![a, c] inb).emb (ix2 ⟨i.val - o0, by omega⟩ ⟨j.val - o1, by omega⟩) := by
      funext x
      fin_cases x <;> apply Fin.ext <;> rw [Rect.emb_apply]
      · show i.val = o0 + 1 * (i.val - o0); omega
      · show j.val = o1 + 1 * (j.val - o1); omega
    rw [e]
    exact Rect.overlay_emb _ _ _ _
  · refine Rect.overlay_of_not_mem _ _ _ fun hm => h ?_
    have hm := Rect.mem_set_unit.mp hm
    exact ⟨hm 0, hm 1⟩

theorem overlay3 {α : Type} {A B C a b c o0 o1 o2 : Nat} (inb) (f : (⟨3, ![A, B, C]⟩ : Shape).Idx → α) (w : (⟨3, ![a, b, c]⟩ : Shape).Idx → α)
    (i : Fin A) (j : Fin B) (k : Fin C) :
    (Rect.unit (s := ⟨3, ![A, B, C]⟩) ![o0, o1, o2] ![a, b, c] inb).overlay f w (ix3 i j k)
      = if h : (o0 ≤ i.val ∧ i.val < o0 + a) ∧ (o1 ≤ j.val ∧ j.val < o1 + b) ∧ (o2 ≤ k.val ∧ k.val < o2 + c)
        then w (ix3 ⟨i.val - o0, by omega⟩ ⟨j.val - o1, by omega⟩ ⟨k.val - o2, by omega⟩) else f (ix3 i j k) := by
  split_ifs with h
  · have e : ix3 i j k = (Rect.unit (s := ⟨3, ![A, B, C]⟩) ![o0, o1, o2] ![a, b, c] inb).emb
        (ix3 ⟨i.val - o0, by omega⟩ ⟨j.val - o1, by omega⟩ ⟨k.val - o2, by omega⟩) := by
      funext x
      fin_cases x <;> apply Fin.ext <;> rw [Rect.emb_apply]
      · show i.val = o0 + 1 * (i.val - o0); omega
      · show j.val = o1 + 1 * (j.val - o1); omega
      · show k.val = o2 + 1 * (k.val - o2); omega
    rw [e]
    exact Rect.overlay_emb _ _ _ _
  · refine Rect.overlay_of_not_mem _ _ _ fun hm => h ?_
    have hm := Rect.mem_set_unit.mp hm
    exact ⟨hm 0, hm 1, hm 2⟩

theorem load2 {α : Type} {A B a c o0 o1 : Nat} (inb) (f : (⟨2, ![A, B]⟩ : Shape).Idx → α) (i : Fin a) (j : Fin c) (h0) (h1) :
    f ((Rect.unit (s := ⟨2, ![A, B]⟩) ![o0, o1] ![a, c] inb).toLoadRect.idx (ix2 i j)) = f (ix2 ⟨o0 + i.val, h0⟩ ⟨o1 + j.val, h1⟩) := by
  congr 1
  funext x
  fin_cases x <;> apply Fin.ext
  · show o0 + 1 * i.val = o0 + i.val; omega
  · show o1 + 1 * j.val = o1 + j.val; omega

theorem load3 {α : Type} {A B C a b c o0 o1 o2 : Nat} (inb) (f : (⟨3, ![A, B, C]⟩ : Shape).Idx → α) (i : Fin a) (j : Fin b) (k : Fin c) (h0) (h1) (h2) :
    f ((Rect.unit (s := ⟨3, ![A, B, C]⟩) ![o0, o1, o2] ![a, b, c] inb).toLoadRect.idx (ix3 i j k))
      = f (ix3 ⟨o0 + i.val, h0⟩ ⟨o1 + j.val, h1⟩ ⟨o2 + k.val, h2⟩) := by
  congr 1
  funext x
  fin_cases x <;> apply Fin.ext
  · show o0 + 1 * i.val = o0 + i.val; omega
  · show o1 + 1 * j.val = o1 + j.val; omega
  · show o2 + 1 * k.val = o2 + k.val; omega

/-- A load from a buffer known where it is loaded. -/
theorem on2_load {α : Type} {A B a c o0 o1 : Nat} (inb : ∀ i, _) {f : (⟨2, ![A, B]⟩ : Shape).Idx → α} {P V} (hf : On2 f P V)
    (hP : ∀ i < a, ∀ j < c, P (o0 + i) (o1 + j)) :
    Is2 (A := a) (B := c) (fun x => f ((Rect.unit (s := ⟨2, ![A, B]⟩) ![o0, o1] ![a, c] inb).toLoadRect.idx x))
      fun i j => V (o0 + i) (o1 + j) := by
  intro i j
  have b0 : o0 + a ≤ A := inb 0
  have b1 : o1 + c ≤ B := inb 1
  exact (load2 inb f i j (by omega) (by omega)).trans (hf _ _ (hP _ i.isLt _ j.isLt))

theorem on3_load {α : Type} {A B C a b c o0 o1 o2 : Nat} (inb : ∀ i, _) {f : (⟨3, ![A, B, C]⟩ : Shape).Idx → α} {P V} (hf : On3 f P V)
    (hP : ∀ i < a, ∀ j < b, ∀ k < c, P (o0 + i) (o1 + j) (o2 + k)) :
    Is3 (A := a) (B := b) (C := c) (fun x => f ((Rect.unit (s := ⟨3, ![A, B, C]⟩) ![o0, o1, o2] ![a, b, c] inb).toLoadRect.idx x))
      fun i j k => V (o0 + i) (o1 + j) (o2 + k) := by
  intro i j k
  have b0 : o0 + a ≤ A := inb 0
  have b1 : o1 + b ≤ B := inb 1
  have b2 : o2 + c ≤ C := inb 2
  exact (load3 inb f i j k (by omega) (by omega) (by omega)).trans (hf _ _ _ (hP _ i.isLt _ j.isLt _ k.isLt))

theorem is2_load {α : Type} {A B a c o0 o1 : Nat} {f : (⟨2, ![A, B]⟩ : Shape).Idx → α} {V} (hf : Is2 f V)
    (inb : ∀ i, (![o0, o1] : Fin 2 → Nat) i + (![a, c] : Fin 2 → Nat) i ≤ (![A, B] : Fin 2 → Nat) i) :
    Is2 (A := a) (B := c) (fun x => f ((Rect.unit (s := ⟨2, ![A, B]⟩) ![o0, o1] ![a, c] inb).toLoadRect.idx x))
      fun i j => V (o0 + i) (o1 + j) :=
  on2_load inb (P := fun _ _ => True) (fun i j _ => hf i j) fun _ _ _ _ => trivial

theorem is3_load {α : Type} {A B C a b c o0 o1 o2 : Nat} {f : (⟨3, ![A, B, C]⟩ : Shape).Idx → α} {V} (hf : Is3 f V)
    (inb : ∀ i, (![o0, o1, o2] : Fin 3 → Nat) i + (![a, b, c] : Fin 3 → Nat) i ≤ (![A, B, C] : Fin 3 → Nat) i) :
    Is3 (A := a) (B := b) (C := c) (fun x => f ((Rect.unit (s := ⟨3, ![A, B, C]⟩) ![o0, o1, o2] ![a, b, c] inb).toLoadRect.idx x))
      fun i j k => V (o0 + i) (o1 + j) (o2 + k) :=
  on3_load inb (P := fun _ _ _ => True) (fun i j k _ => hf i j k) fun _ _ _ _ _ _ => trivial

/-- A store to a buffer, of a vector known everywhere: what is known of the buffer afterwards. -/
theorem on2_store {α : Type} {A B a c o0 o1 : Nat} (inb) {f : (⟨2, ![A, B]⟩ : Shape).Idx → α} {w : (⟨2, ![a, c]⟩ : Shape).Idx → α} {P P' V V' W}
    (hf : On2 f P V) (hw : Is2 w W)
    (hin : ∀ i j, o0 ≤ i → i < o0 + a → o1 ≤ j → j < o1 + c → P' i j → W (i - o0) (j - o1) = V' i j)
    (hout : ∀ i < A, ∀ j < B, ¬ ((o0 ≤ i ∧ i < o0 + a) ∧ (o1 ≤ j ∧ j < o1 + c)) → P' i j → P i j ∧ V i j = V' i j) :
    On2 ((Rect.unit (s := ⟨2, ![A, B]⟩) ![o0, o1] ![a, c] inb).overlay f w) P' V' := by
  intro i j hp
  rw [overlay2]
  split_ifs with h
  · rw [hw _ _]; exact hin _ _ h.1.1 h.1.2 h.2.1 h.2.2 hp
  · obtain ⟨h1, h2⟩ := hout _ i.isLt _ j.isLt h hp
    rw [hf _ _ h1, h2]

theorem on3_store {α : Type} {A B C a b c o0 o1 o2 : Nat} (inb) {f : (⟨3, ![A, B, C]⟩ : Shape).Idx → α} {w : (⟨3, ![a, b, c]⟩ : Shape).Idx → α} {P P' V V' W}
    (hf : On3 f P V) (hw : Is3 w W)
    (hin : ∀ i j k, o0 ≤ i → i < o0 + a → o1 ≤ j → j < o1 + b → o2 ≤ k → k < o2 + c → P' i j k → W (i - o0) (j - o1) (k - o2) = V' i j k)
    (hout : ∀ i < A, ∀ j < B, ∀ k < C, ¬ ((o0 ≤ i ∧ i < o0 + a) ∧ (o1 ≤ j ∧ j < o1 + b) ∧ (o2 ≤ k ∧ k < o2 + c)) → P' i j k → P i j k ∧ V i j k = V' i j k) :
    On3 ((Rect.unit (s := ⟨3, ![A, B, C]⟩) ![o0, o1, o2] ![a, b, c] inb).overlay f w) P' V' := by
  intro i j k hp
  rw [overlay3]
  split_ifs with h
  · rw [hw _ _ _]; exact hin _ _ _ h.1.1 h.1.2 h.2.1.1 h.2.1.2 h.2.2.1 h.2.2.2 hp
  · obtain ⟨h1, h2⟩ := hout _ i.isLt _ j.isLt _ k.isLt h hp
    rw [hf _ _ _ h1, h2]

theorem is2_store {α : Type} {A B a c o0 o1 : Nat} (inb) {f : (⟨2, ![A, B]⟩ : Shape).Idx → α} {w : (⟨2, ![a, c]⟩ : Shape).Idx → α} {V V' W}
    (hf : Is2 f V) (hw : Is2 w W)
    (hin : ∀ i j, o0 ≤ i → i < o0 + a → o1 ≤ j → j < o1 + c → W (i - o0) (j - o1) = V' i j)
    (hout : ∀ i < A, ∀ j < B, ¬ ((o0 ≤ i ∧ i < o0 + a) ∧ (o1 ≤ j ∧ j < o1 + c)) → V i j = V' i j) :
    Is2 ((Rect.unit (s := ⟨2, ![A, B]⟩) ![o0, o1] ![a, c] inb).overlay f w) V' := fun i j =>
  on2_store inb (P := fun _ _ => True) (P' := fun _ _ => True) (fun i j _ => hf i j) hw (fun i j h1 h2 h3 h4 _ => hin i j h1 h2 h3 h4)
    (fun i hi j hj h _ => ⟨trivial, hout i hi j hj h⟩) i j trivial

/-- A store to a whole buffer. -/
theorem is3_whole {α : Type} {A B C : Nat} (inb) {f w : (⟨3, ![A, B, C]⟩ : Shape).Idx → α} {W} (hw : Is3 w W) :
    Is3 ((Rect.unit (s := ⟨3, ![A, B, C]⟩) ![0, 0, 0] ![A, B, C] inb).overlay f w) W := by
  intro i j k
  rw [overlay3, dif_pos (by omega)]
  exact hw _ _ _

theorem is2_whole {α : Type} {A B : Nat} (inb) {f w : (⟨2, ![A, B]⟩ : Shape).Idx → α} {W} (hw : Is2 w W) :
    Is2 ((Rect.unit (s := ⟨2, ![A, B]⟩) ![0, 0] ![A, B] inb).overlay f w) W := by
  intro i j
  rw [overlay2, dif_pos (by omega)]
  exact hw _ _

end Rms

end

end
-- ==== Proof.Rms.Val.lean ====
module

public import proofs.«01_k».proof.Proof.Rms.Run
public import Idealize.ShloMosaic.Lib.Pointwise

/-! # The values of the passes over the extended reals, element by element -/

@[expose] public section

set_option maxRecDepth 16384

noncomputable section

namespace Rms

open Idealize.ShloMosaic Idealize.SL.Sem Idealize.ShloMosaic.Pointwise

theorem half_is (v : FVec Ideal S32x256 .f32) (V : Nat → Nat → EReal) (hv : Is2 v V) (o : Nat) (h) :
    Is3 (half v o h) fun g a l => V (8 * g + a) (o + l) := by
  intro g a l
  pointwise [half]
  rw [hv]
  simp only [mul_comm]

theorem widen_is (v : Vec Ideal S1x32x256 .bf16) (V : Nat → Nat → Nat → EReal) (hv : Is3 v V) :
    Is2 (widen v) fun r l => V 0 r l := by
  intro g l
  pointwise [widen]
  exact hv _ _ _

theorem rowSum_is (v : FVec Ideal S4x8x128 .f32) (V : Nat → Nat → Nat → EReal) (hv : Is3 v V) :
    Is2 (rowSum v) fun a l => (V 0 a l + V 1 a l) + (V 2 a l + V 3 a l) := by
  intro g l
  pointwise [rowSum, rowGroup]
  rw [hv, hv, hv, hv]
  rfl

theorem gammaRows_is (v : Vec Ideal S8x128 .f32) (V : Nat → Nat → EReal) (hv : Is2 v V) :
    Is3 (gammaRows v) fun _ a l => V a l := by
  intro g a l
  pointwise [gammaRows]
  exact hv _ _

theorem rows_is (v : Vec Ideal S32x128 .f32) (V : Nat → Nat → EReal) (hv : Is2 v V) (h) :
    Is3 (shapeCast S4x8x128 v h) fun g a l => V (8 * g + a) l := by
  intro g a l
  pointwise
  rw [hv]
  simp only [mul_comm]

theorem unrows_is (v : Vec Ideal S4x8x128 .f32) (V : Nat → Nat → EReal) (hv : Is3 v fun g a l => V (8 * g + a) l) (h) :
    Is2 (shapeCast S32x128 v h) V := by
  intro r l
  pointwise
  rw [hv]
  show V (8 * (r.val / 8) + r.val % 8) l.val = _
  rw [Nat.div_add_mod]

theorem rowK_is (cinv : EReal) (r c : FVec Ideal S4x8x128 .f32) (R C : Nat → Nat → Nat → EReal) (hr : Is3 r R) (hc : Is3 c C) :
    Is3 (rowK cinv r c) fun g a l => (R g a l * R g a l) * ((∑ k : Fin 128, C g a k.val) * cinv) := by
  intro g a l
  pointwise [rowK]
  simp only [hr _ _ _, hc _ _ _]

theorem rowZ_is (v : FVec Ideal S4x8x128 .f32) (V : Nat → Nat → Nat → EReal) (hv : Is3 v V) :
    Is3 (α := EReal) (rowZ (F := Ideal) v) fun g a _ => (Finset.univ.fold max ⊥ fun k : Fin 128 => V g a k.val) * Ideal.ofBits .f32 0x37924925#32 := by
  intro g a l
  pointwise [rowZ]
  simp only [hv _ _ _]
  rw [show Ideal.ofBits FTy.f32 4286578688#32 = (⊥ : EReal) from rfl]

/-- The test whether lane `x` of row `a` lies on the diagonal that starts at lane `8 * s`. -/
theorem onDiag {α : Type} (x a s : Nat) (hx : x < 128) (ha : a < 8) (hs : s < 16) (p q : α) :
    Scalar.select (IntOp.cmpi CmpIPredicate.eq (BitVec.ofNat 32 x) (IntOp.addi (BitVec.ofNat 32 a) (BitVec.ofNat 32 (8 * s)))) p q
      = if x = 8 * s + a then p else q := by
  have e : (BitVec.ofNat 32 x = BitVec.ofNat 32 a + BitVec.ofNat 32 (8 * s)) ↔ x = 8 * s + a := by
    rw [← BitVec.toNat_inj]
    simp only [BitVec.toNat_add, BitVec.toNat_ofNat]
    omega
  by_cases h : x = 8 * s + a
  · rw [if_pos h, e.mpr h]
    exact if_pos (by simp [IntOp.cmpi, IntOp.addi])
  · rw [if_neg h]
    have := mt e.mp h
    refine if_neg ?_
    show ¬ BitVec.ofBool (BitVec.ofNat 32 x == BitVec.ofNat 32 a + BitVec.ofNat 32 (8 * s)) = 1#1
    rw [beq_eq_false_iff_ne.mpr this]
    decide

theorem spreadRow_is (v : FVec Ideal S8x128 .f32) (V : Nat → EReal) (hv : Is2 v fun _ l => V l) (s : Nat) (hs : s < 16) :
    Is2 (spreadRow v s) fun a _ => V (8 * s + a) := by
  intro a l
  pointwise [spreadRow]
  have hz : ∀ i, zeros (F := Ideal) S8x128 i = (0 : EReal) := fun i => by pointwise [zeros]
  simp only [onDiag _ _ _ (Fin.isLt _) a.isLt hs, hv _ _, hz]
  rw [Finset.sum_eq_single (⟨8 * s + a.val, by omega⟩ : Fin 128)]
  · rw [if_pos rfl]
  · intro b _ hb
    rw [if_neg fun h => hb (Fin.ext h)]
  · exact fun h => absurd (Finset.mem_univ _) h

theorem diag_is (v : FVec Ideal S8x128 .f32) (V : Nat → EReal) (hv : Is2 v fun a _ => V a) (s : Nat) (hs : s < 16) :
    Is2 (α := EReal) (diag (F := Ideal) v s) fun a l => if l = 8 * s + a then V a else 0 := by
  intro a l
  pointwise [diag]
  have hz : ∀ i, zeros (F := Ideal) S8x128 i = (0 : EReal) := fun i => by pointwise [zeros]
  rw [onDiag _ _ _ l.isLt a.isLt hs, hv, hz]

theorem codes_is (d i : FVec Ideal S4x8x128 .f32) (D I : Nat → Nat → EReal)
    (hd : Is3 d fun g a l => D (8 * g + a) l) (hi : Is3 i fun g a l => I (8 * g + a) l) :
    Is3 (codes d i) fun _ r l => min (Ideal.ofBits .f32 0x47600000#32) (max (Ideal.ofBits .f32 0xC7600000#32) (D r l * I r l)) := by
  intro g r l
  pointwise [codes]
  rw [hd, hi]
  show min _ (max _ (D (8 * (r.val / 8) + r.val % 8) l.val * I (8 * (r.val / 8) + r.val % 8) l.val)) = _
  rw [Nat.div_add_mod]

/-- One step of the search, at one element. -/
def step1 (z : EReal) (m c : BitVec 32) : BitVec 32 := if z < Ideal.ofBits .f32 (m + c) then m else m + c

/-- The exponent field of `z`, at one element: the search, bit by bit. -/
def exp1 (z : EReal) : BitVec 32 :=
  step1 z (step1 z (step1 z (step1 z (step1 z (step1 z (step1 z (step1 z 0#32
    1073741824#32) 536870912#32) 268435456#32) 134217728#32) 67108864#32) 33554432#32) 16777216#32) 8388608#32

/-- The field with 126 in place of zero and of all ones. -/
def clean1 (z : EReal) : BitVec 32 :=
  let m := if z < Ideal.ofBits .f32 0x7E800000#32 then exp1 z else 2139095040#32
  if m = 0#32 ∨ m = 2139095040#32 then 1056964608#32 else m

theorem expStep_eq (z : FVec Ideal S4x8x128 .f32) (m : IVec S4x8x128 32) (c : BitVec 32) (i : S4x8x128.Idx) (w : BitVec 32)
    (h : m i = w) : expStep z m c i = step1 (z i) w c := by
  subst h
  unfold step1
  pointwise [expStep]
  rfl

theorem expClean_eq (m : IVec S4x8x128 32) (i : S4x8x128.Idx) :
    expClean m i = if m i = 0#32 ∨ m i = 2139095040#32 then 1056964608#32 else m i := by
  have e : ∀ w : BitVec 32, Scalar.select (IntOp.ori (IntOp.cmpi .eq w 0#32) (IntOp.cmpi .eq w 2139095040#32)) 1056964608#32 w
      = if w = 0#32 ∨ w = 2139095040#32 then 1056964608#32 else w := by
    intro w
    by_cases h1 : w = 0#32
    · subst h1; rfl
    · by_cases h2 : w = 2139095040#32
      · subst h2; rfl
      · rw [if_neg (by rintro (h | h) <;> contradiction)]
        refine if_neg ?_
        show ¬ (BitVec.ofBool (w == 0#32) ||| BitVec.ofBool (w == 2139095040#32)) = 1#1
        rw [beq_eq_false_iff_ne.mpr h1, beq_eq_false_iff_ne.mpr h2]
        decide
  exact e (m i)

theorem expSearch_eq (z : FVec Ideal S4x8x128 .f32) (i : S4x8x128.Idx) : expSearch z i = exp1 (z i) := by
  unfold expSearch exp1
  iterate 8 refine expStep_eq _ _ _ _ _ ?_
  rfl

theorem capped_eq (z : FVec Ideal S4x8x128 .f32) (E : IVec S4x8x128 32) (i : S4x8x128.Idx) :
    select (cmpf .olt z (broadcast S4x8x128 (Scalar.ofBits (F := Ideal) .f32 0x7E800000#32))) E (broadcast S4x8x128 2139095040#32) i
      = if z i < Ideal.ofBits .f32 0x7E800000#32 then E i else 2139095040#32 := by
  pointwise

theorem expField_eq (z : FVec Ideal S4x8x128 .f32) (i : S4x8x128.Idx) :
    expField z i = if z i < Ideal.ofBits .f32 0x7E800000#32 then exp1 (z i) else 2139095040#32 := by
  unfold expField
  rw [capped_eq, expSearch_eq]

theorem rowE_eq (v : Vec Ideal S4x8x128 .f32) (i : S4x8x128.Idx) : rowE v i = clean1 (rowZ v i) := by
  unfold rowE clean1
  rw [expClean_eq, expField_eq]

theorem rowScale_eq (v : Vec Ideal S4x8x128 .f32) (i : S4x8x128.Idx) :
    rowScale v i = Ideal.ofBits .f32 (clean1 (rowZ v i) + 8388608#32) := by
  rw [← rowE_eq]
  rfl

theorem rowInv_eq (v : Vec Ideal S4x8x128 .f32) (i : S4x8x128.Idx) :
    rowInv v i = Ideal.ofBits .f32 (2122317824#32 - clean1 (rowZ v i)) := by
  rw [← rowE_eq]
  rfl

end Rms

end

end
-- ==== Proof.Rms.Pass.lean ====
module

public import proofs.«01_k».proof.Proof.Rms.Val

/-! # What the passes do to the buffers, over the extended reals -/

@[expose] public section

set_option maxRecDepth 16384

noncomputable section

namespace Rms

open Idealize.ShloMosaic Idealize.SL.Sem Idealize.ShloMosaic.Pointwise

/-! ## Element-wise operations on vectors given by functions -/

theorem is3_mulf {A B C : Nat} {v w : FVec Ideal ⟨3, ![A, B, C]⟩ .f32} {V W : Nat → Nat → Nat → EReal} (hv : Is3 v V) (hw : Is3 w W) :
    Is3 (α := EReal) (mulf (F := Ideal) v w) fun i j k => V i j k * W i j k := fun i j k =>
  congrArg₂ (fun a b : EReal => a * b) (hv i j k) (hw i j k)

theorem is3_addf {A B C : Nat} {v w : FVec Ideal ⟨3, ![A, B, C]⟩ .f32} {V W : Nat → Nat → Nat → EReal} (hv : Is3 v V) (hw : Is3 w W) :
    Is3 (α := EReal) (addf (F := Ideal) v w) fun i j k => V i j k + W i j k := fun i j k =>
  congrArg₂ (fun a b : EReal => a + b) (hv i j k) (hw i j k)

theorem is3_subf {A B C : Nat} {v w : FVec Ideal ⟨3, ![A, B, C]⟩ .f32} {V W : Nat → Nat → Nat → EReal} (hv : Is3 v V) (hw : Is3 w W) :
    Is3 (α := EReal) (subf (F := Ideal) v w) fun i j k => V i j k - W i j k := fun i j k =>
  congrArg₂ (fun a b : EReal => a - b) (hv i j k) (hw i j k)

theorem is3_maxabs {A B C : Nat} {v w : FVec Ideal ⟨3, ![A, B, C]⟩ .f32} {V W : Nat → Nat → Nat → EReal} (hv : Is3 v V) (hw : Is3 w W) :
    Is3 (α := EReal) (maximumf (F := Ideal) v (absf (F := Ideal) w)) fun i j k => max (V i j k) (max (W i j k) (-W i j k)) := fun i j k =>
  congrArg₂ (fun a b : EReal => max a (max b (-b))) (hv i j k) (hw i j k)

theorem is2_addf {A B : Nat} {v w : FVec Ideal ⟨2, ![A, B]⟩ .f32} {V W : Nat → Nat → EReal} (hv : Is2 v V) (hw : Is2 w W) :
    Is2 (α := EReal) (addf (F := Ideal) v w) fun i j => V i j + W i j := fun i j =>
  congrArg₂ (fun a b : EReal => a + b) (hv i j) (hw i j)

theorem shapeCast_self {α : Type} (s : Shape) (v : s.Idx → α) (h) : shapeCast s v h = v := by
  funext i
  pointwise

theorem is3_zeros {A B C : Nat} : Is3 (α := EReal) (zeros (F := Ideal) ⟨3, ![A, B, C]⟩) fun _ _ _ => 0 := fun i j k => by
  pointwise [zeros]

theorem is2_zeros {A B : Nat} : Is2 (α := EReal) (zeros (F := Ideal) ⟨2, ![A, B]⟩) fun _ _ => 0 := fun i j => by
  pointwise [zeros]

/-! ## A block's data and the values of its rows -/

/-- One block: its rows of `x` and `dy`, `gamma`, the row factors, and the factor of the mean. -/
structure Blk where
  X : Nat → Nat → EReal
  Y : Nat → Nat → EReal
  G : Nat → EReal
  R : Nat → EReal
  cinv : EReal

namespace Blk

variable (B : Blk)

/-- The weighted gradient. -/
def g (r l : Nat) : EReal := (B.Y r l * B.R r) * B.G l
/-- The products of row `r` summed along lane `l` of the first `n` lane groups. -/
def dot (n r l : Nat) : EReal := ∑ i ∈ Finset.range n, B.X r (128 * i + l) * B.g r (128 * i + l)
/-- The factor of `x`. -/
def K (r : Nat) : EReal := (B.R r * B.R r) * ((∑ k : Fin 128, B.dot 20 r k.val) * B.cinv)
/-- The gradient. -/
def D (r l : Nat) : EReal := B.g r l - B.X r l * B.K r
/-- The largest magnitude along lane `l` of the first `n` lane groups of row `r`. -/
def M : Nat → Nat → Nat → EReal
  | 0, _, _ => 0
  | n + 1, r, l => max (M n r l) (max (B.D r (128 * n + l)) (-B.D r (128 * n + l)))
/-- The quotient from which the row's scale is read. -/
def Z (r : Nat) : EReal := (Finset.univ.fold max ⊥ fun k : Fin 128 => B.M 20 r k.val) * Ideal.ofBits .f32 0x37924925#32
/-- The row's scale. -/
def S (r : Nat) : EReal := Ideal.ofBits .f32 (clean1 (B.Z r) + 8388608#32)
/-- The row's reciprocal scale. -/
def I (r : Nat) : EReal := Ideal.ofBits .f32 (2122317824#32 - clean1 (B.Z r))
/-- The code. -/
def Q (r l : Nat) : EReal := min (Ideal.ofBits .f32 0x47600000#32) (max (Ideal.ofBits .f32 0xC7600000#32) (B.D r l * B.I r))
/-- A term of `gamma`'s gradient. -/
def t (r l : Nat) : EReal := B.X r l * (B.Y r l * B.R r)
/-- What the chunk at `row` adds to `gamma`'s gradient in row `a` of its accumulator. -/
def T (row a l : Nat) : EReal :=
  (B.t (row + (8 * 0 + a)) l + B.t (row + (8 * 1 + a)) l) + (B.t (row + (8 * 2 + a)) l + B.t (row + (8 * 3 + a)) l)

end Blk

/-- The buffers every pass reads hold the block's data. -/
structure Base (B : Blk) (s : St Ideal) : Prop where
  x : Is3 (α := EReal) (s .x) fun _ r l => B.X r l
  dy : Is3 (α := EReal) (s .dy) fun _ r l => B.Y r l
  gb : Is2 (α := EReal) (s .gb) fun _ l => B.G l
  rb : Is2 (α := EReal) (s .rb) fun r _ => B.R r

theorem Base.keep {B : Blk} {s s' : St Ideal} (h : Base B s) (hx : s' .x = s .x) (hdy : s' .dy = s .dy) (hgb : s' .gb = s .gb)
    (hrb : s' .rb = s .rb) : Base B s' :=
  ⟨by rw [hx]; exact h.x, by rw [hdy]; exact h.dy, by rw [hgb]; exact h.gb, by rw [hrb]; exact h.rb⟩

/-! ## The first pass -/

/-- The first pass over the chunk at `row`, after `j` lane groups. -/
structure LaneI (B : Blk) (p : Bool) (row : Nat) (A : Nat → Nat → EReal) (j : Nat) (a : FVec Ideal S4x8x128 .f32) (s : St Ideal) : Prop where
  base : Base B s
  xs : On3 (α := EReal) (s (.xs p)) (fun _ _ l => l < 128 * j) fun g a l => B.X (row + (8 * g + a)) l
  gs : On3 (α := EReal) (s (.gs p)) (fun _ _ l => l < 128 * j) fun g a l => B.g (row + (8 * g + a)) l
  acc : Is2 (α := EReal) (s .acc) fun a l => if l < 128 * j then A a l + B.T row a l else A a l
  sum : Is3 (α := EReal) a fun g b l => B.dot j (row + (8 * g + b)) l

theorem lane1_eq (p : Bool) (r x dy : FVec Ideal S4x8x128 .f32) (j : Nat) (hj : j < 20) (a : FVec Ideal S4x8x128 .f32) (s s1 s2 : St Ideal)
    (gb d : Vec Ideal S8x128 .f32) (hgb : gb = fun i => s .gb ((pGbL j hj).rect.toLoadRect.idx i))
    (h1 : s1 = s.set (.xs p) ((pXs p j hj).rect.overlay (s (.xs p)) (shapeCast S4x8x128 x (by decide))))
    (h2 : s2 = s1.set (.gs p) ((pGs p j hj).rect.overlay (s1 (.gs p)) (shapeCast S4x8x128 (mulf (mulf dy r) (gammaRows gb)) (by decide))))
    (hd : d = fun i => s2 .acc ((pAccL j hj).rect.toLoadRect.idx i)) :
    run (lane1 p r x dy j hj a) s =
      (addf a (mulf x (mulf (mulf dy r) (gammaRows gb))),
        s2.set .acc ((pAccL j hj).rect.overlay (s2 .acc) (shapeCast S8x128 (addf d (rowSum (mulf x (mulf dy r)))) (by decide)))) := by
  subst hd h2 h1 hgb
  exact (run_ld _ _ _).trans ((run_st _ _ _ _ _).trans ((run_st _ _ _ _ _).trans ((run_ld _ _ _).trans (run_st _ _ _ _ _))))

/-- What the lane group leaves in the buffers it stores to, and that it leaves the others. -/
theorem lane1_bufs (p : Bool) (r x dy : FVec Ideal S4x8x128 .f32) (j : Nat) (hj : j < 20) (a : FVec Ideal S4x8x128 .f32) (s : St Ideal)
    (gb d : Vec Ideal S8x128 .f32) (hgb : gb = fun i => s .gb ((pGbL j hj).rect.toLoadRect.idx i))
    (hd : d = fun i => s .acc ((pAccL j hj).rect.toLoadRect.idx i)) :
    ((run (lane1 p r x dy j hj a) s).2 (.xs p) = (pXs p j hj).rect.overlay (s (.xs p)) (shapeCast S4x8x128 x (by decide)))
    ∧ ((run (lane1 p r x dy j hj a) s).2 (.gs p) = (pGs p j hj).rect.overlay (s (.gs p))
        (shapeCast S4x8x128 (mulf (mulf dy r) (gammaRows gb)) (by decide)))
    ∧ ((run (lane1 p r x dy j hj a) s).2 .acc = (pAccL j hj).rect.overlay (s .acc)
        (shapeCast S8x128 (addf d (rowSum (mulf x (mulf dy r)))) (by decide)))
    ∧ (∀ b, b ≠ .xs p → b ≠ .gs p → b ≠ .acc → (run (lane1 p r x dy j hj a) s).2 b = s b)
    ∧ (run (lane1 p r x dy j hj a) s).1 = addf a (mulf x (mulf (mulf dy r) (gammaRows gb))) := by
  have n1 : Buf.gs p ≠ .xs p := nofun
  have n2 : Buf.acc ≠ .xs p := nofun
  have n3 : Buf.acc ≠ .gs p := nofun
  obtain ⟨s1, h1⟩ : ∃ s1, s1 = s.set (.xs p) ((pXs p j hj).rect.overlay (s (.xs p)) (shapeCast S4x8x128 x (by decide))) := ⟨_, rfl⟩
  obtain ⟨s2, h2⟩ : ∃ s2, s2 = s1.set (.gs p) ((pGs p j hj).rect.overlay (s1 (.gs p)) (shapeCast S4x8x128 (mulf (mulf dy r) (gammaRows gb)) (by decide))) := ⟨_, rfl⟩
  have ha : s2 .acc = s .acc := by rw [h2, set_ne _ _ n3, h1, set_ne _ _ n2]
  have hg : s1 (.gs p) = s (.gs p) := by rw [h1, set_ne _ _ n1]
  rw [lane1_eq p r x dy j hj a s s1 s2 gb d hgb h1 h2 (by rw [ha]; exact hd)]
  rw [ha]
  rw [hg] at h2
  dsimp only
  refine ⟨?_, ?_, ?_, ?_, rfl⟩
  · rw [set_ne s2 _ n2.symm]
    rw [h2, set_ne s1 _ n1.symm]
    rw [h1]; exact set_self s (.xs p) _
  · rw [set_ne s2 _ n3.symm]
    rw [h2]; exact set_self s1 (.gs p) _
  · exact set_self s2 .acc _
  · intro b e1 e2 e3
    rw [set_ne s2 _ e3, h2, set_ne s1 _ e2, h1, set_ne s _ e1]

theorem lane1_run {B : Blk} {p : Bool} {row : Nat} {A : Nat → Nat → EReal} {j : Nat} (hj : j < 20) {a : FVec Ideal S4x8x128 .f32} {s : St Ideal}
    {r x dy : FVec Ideal S4x8x128 .f32} (h : LaneI B p row A j a s) (hr : Is3 (α := EReal) r fun g a _ => B.R (row + (8 * g + a)))
    (hx : Is3 (α := EReal) x fun g a l => B.X (row + (8 * g + a)) (128 * j + l))
    (hy : Is3 (α := EReal) dy fun g a l => B.Y (row + (8 * g + a)) (128 * j + l)) :
    LaneI B p row A (j + 1) (run (lane1 p r x dy j hj a) s).1 (run (lane1 p r x dy j hj a) s).2 := by
  have hg := is2_load (α := EReal) h.base.gb (pGbL j hj).inb
  have hd := is2_load (α := EReal) h.acc (pAccL j hj).inb
  have hgg := is3_mulf (is3_mulf hy hr) (gammaRows_is _ _ hg)
  have ht := rowSum_is _ _ (is3_mulf hx (is3_mulf hy hr))
  have hs := is3_addf h.sum (is3_mulf hx hgg)
  obtain ⟨e1, e2, e3, e4, e5⟩ := lane1_bufs p r x dy j hj a s _ _ rfl rfl
  refine ⟨h.base.keep (e4 _ nofun nofun nofun) (e4 _ nofun nofun nofun) (e4 _ nofun nofun nofun) (e4 _ nofun nofun nofun), ?_, ?_, ?_, ?_⟩
  · rw [e1]
    refine on3_store (α := EReal) (pXs p j hj).inb h.xs (W := fun g a l => B.X (row + (8 * g + a)) (128 * j + l)) ?_ ?_ ?_
    · rw [shapeCast_self]; exact hx
    · intro g a l _ _ _ _ h1 h2 _
      rw [show g - 0 = g by omega, show a - 0 = a by omega, show 128 * j + (l - 128 * j) = l by omega]
    · intro g _ a _ l _ h1 h2
      exact ⟨by omega, rfl⟩
  · rw [e2]
    refine on3_store (α := EReal) (pGs p j hj).inb h.gs (W := fun g a l => B.g (row + (8 * g + a)) (128 * j + l)) ?_ ?_ ?_
    · rw [shapeCast_self]; exact hgg
    · intro g a l _ _ _ _ h1 h2 _
      rw [show g - 0 = g by omega, show a - 0 = a by omega, show 128 * j + (l - 128 * j) = l by omega]
    · intro g _ a _ l _ h1 h2
      exact ⟨by omega, rfl⟩
  · rw [e3]
    refine is2_store (α := EReal) (pAccL j hj).inb h.acc (W := fun a l => A a (128 * j + l) + B.T row a (128 * j + l)) ?_ ?_ ?_
    · rw [shapeCast_self]
      intro a l
      refine (is2_addf hd ht a l).trans ?_
      show (if 128 * j + l.val < 128 * j then _ else A (0 + a.val) (128 * j + l.val)) + _ = _
      rw [if_neg (by omega)]
      exact congrArg₂ (fun u v : EReal => u + v) (congrArg (fun z => A z (128 * j + l.val)) (Nat.zero_add _)) rfl
    · intro a l _ _ h1 h2
      rw [if_pos (by omega), show a - 0 = a by omega, show 128 * j + (l - 128 * j) = l by omega]
    · intro a _ l _ h1
      by_cases h2 : l < 128 * j
      · rw [if_pos h2, if_pos (by omega)]
      · rw [if_neg h2, if_neg (by omega)]
  · rw [e5]
    intro g b l
    refine (hs g b l).trans ?_
    show _ = ∑ i ∈ Finset.range (j + 1), _
    rw [Finset.sum_range_succ]
    rfl

/-- What the first pass over the chunk at `row` leaves in its buffers. -/
structure P1 (B : Blk) (p : Bool) (row : Nat) (s : St Ideal) : Prop where
  xs : Is3 (α := EReal) (s (.xs p)) fun g a l => B.X (row + (8 * g + a)) l
  gs : Is3 (α := EReal) (s (.gs p)) fun g a l => B.g (row + (8 * g + a)) l
  cs : Is3 (α := EReal) (s (.cs p)) fun g a l => B.dot 20 (row + (8 * g + a)) l

/-- A round of the first pass: two lane groups. -/
def round1 (row : Nat) (h : RowOK row) (p : Bool) (r : FVec Ideal S4x8x128 .f32) (j : Nat) (hj : j < 10) (a : FVec Ideal S4x8x128 .f32) :
    Mem Ideal (FVec Ideal S4x8x128 .f32) :=
  .bind (ld (pX row h j hj)) fun (x : Vec Ideal S1x32x256 .bf16) =>
  .bind (ld (pDy row h j hj)) fun (dy : Vec Ideal S1x32x256 .bf16) =>
  .bind (lane1 p r (half (widen x) 0 (by decide)) (half (widen dy) 0 (by decide)) (2 * j) (by omega) a) fun a =>
  lane1 p r (half (widen x) 128 (by decide)) (half (widen dy) 128 (by decide)) (2 * j + 1) (by omega) a

theorem round1_run {B : Blk} {p : Bool} {row : Nat} (hrow : RowOK row) {A : Nat → Nat → EReal} {r : FVec Ideal S4x8x128 .f32}
    (hr : Is3 (α := EReal) r fun g a _ => B.R (row + (8 * g + a))) (j : Nat) (hj : j < 10) (a : FVec Ideal S4x8x128 .f32) (s : St Ideal)
    (h : LaneI B p row A (2 * j) a s) :
    LaneI B p row A (2 * (j + 1)) (run (round1 row hrow p r j hj a) s).1 (run (round1 row hrow p r j hj a) s).2 := by
  have hx := widen_is _ _ (is3_load (α := EReal) h.base.x (pX row hrow j hj).inb)
  have hy := widen_is _ _ (is3_load (α := EReal) h.base.dy (pDy row hrow j hj).inb)
  have e : ∀ l, 256 * j + (0 + l) = 128 * (2 * j) + l := by intro l; omega
  have e' : ∀ l, 256 * j + (128 + l) = 128 * (2 * j + 1) + l := by intro l; omega
  have hx0 := half_is _ _ hx 0 (by decide)
  have hx1 := half_is _ _ hx 128 (by decide)
  have hy0 := half_is _ _ hy 0 (by decide)
  have hy1 := half_is _ _ hy 128 (by decide)
  simp only [e] at hx0 hy0
  simp only [e'] at hx1 hy1
  have er : ∃ x0 y0 x1 y1, (Is3 (α := EReal) x0 fun g a l => B.X (row + (8 * g + a)) (128 * (2 * j) + l)) ∧ (Is3 (α := EReal) y0 fun g a l => B.Y (row + (8 * g + a)) (128 * (2 * j) + l))
      ∧ (Is3 (α := EReal) x1 fun g a l => B.X (row + (8 * g + a)) (128 * (2 * j + 1) + l)) ∧ (Is3 (α := EReal) y1 fun g a l => B.Y (row + (8 * g + a)) (128 * (2 * j + 1) + l))
      ∧ run (round1 row hrow p r j hj a) s = run (.bind (lane1 p r x0 y0 (2 * j) (by omega) a) fun a => lane1 p r x1 y1 (2 * j + 1) (by omega) a) s :=
    ⟨_, _, _, _, hx0, hy0, hx1, hy1, (run_ld _ _ _).trans (run_ld _ _ _)⟩
  obtain ⟨x0, y0, x1, y1, h1, h2, h3, h4, er⟩ := er
  rw [er, run_bind]
  exact lane1_run (show 2 * j + 1 < 20 by omega) (lane1_run (show 2 * j < 20 by omega) h hr h1 h2) hr h3 h4

/-- The rows' factors of the chunk at `row`. -/
abbrev rowsOf (s : St Ideal) (row : Nat) (h : RowOK row) : FVec Ideal S4x8x128 .f32 :=
  shapeCast S4x8x128 (s := S32x128) (fun i => s .rb ((pRb row h).rect.toLoadRect.idx i)) (by decide)

theorem rowsOf_is {B : Blk} {s : St Ideal} (h : Base B s) (row : Nat) (hrow : RowOK row) :
    Is3 (α := EReal) (rowsOf s row hrow) fun g a _ => B.R (row + (8 * g + a)) :=
  rows_is _ _ (is2_load (α := EReal) h.rb (pRb row hrow).inb) (by decide)

theorem pass1_eq (row : Nat) (h : RowOK row) (p : Bool) (s : St Ideal) (r : FVec Ideal S4x8x128 .f32) (hr : r = rowsOf s row h)
    (q : FVec Ideal S4x8x128 .f32 × St Ideal) (hq : q = run (loopN (N := 10) (round1 row h p r) 10 0 rfl (zeros S4x8x128)) s) :
    (run (pass1 row h p) s).2 = q.2.set (.cs p) ((pCs p).rect.overlay (q.2 (.cs p)) (shapeCast S4x8x128 q.1 (by decide))) := by
  have e1 : run (pass1 row h p) s = run ((fun a => st (pCs p) ⟨rfl, .inl rfl⟩ (shapeCast S4x8x128 a (by decide))) q.1) q.2 := by
    rw [hq, hr]
    unfold pass1
    refine (run_ld (pRb row h) _ s).trans ?_
    exact run_bind (loopN (N := 10) (round1 row h p (rowsOf s row h)) 10 0 rfl (zeros S4x8x128)) _ _
  rw [e1]
  exact congrArg Prod.snd (run_st' (pCs p) _ _ q.2)

theorem pass1_run {B : Blk} {p : Bool} {row : Nat} (hrow : RowOK row) {A : Nat → Nat → EReal} {s : St Ideal} (h : Base B s)
    (hA : Is2 (α := EReal) (s .acc) A) :
    P1 B p row (run (pass1 row hrow p) s).2 ∧ Is2 (α := EReal) ((run (pass1 row hrow p) s).2 .acc) (fun a l => A a l + B.T row a l) := by
  have hr := rowsOf_is h row hrow
  obtain ⟨r, e⟩ : ∃ r, r = rowsOf s row hrow := ⟨_, rfl⟩
  rw [← e] at hr
  have hl := run_loopN (fun j a s => LaneI B p row A (2 * j) a s) (N := 10) (body := round1 row hrow p r)
    (fun j hj a s' h' => round1_run hrow hr j hj a s' h')
    10 0 rfl (zeros S4x8x128) s ⟨h, fun _ _ _ h => absurd h (by omega), fun _ _ _ h => absurd h (by omega), fun i j => by
      exact (hA i j).trans (if_neg (by omega)).symm, is3_zeros⟩
  obtain ⟨q, hq⟩ : ∃ q, q = run (loopN (N := 10) (round1 row hrow p r) 10 0 rfl (zeros S4x8x128)) s := ⟨_, rfl⟩
  rw [← hq] at hl
  rw [pass1_eq row hrow p s r e q hq]
  refine ⟨⟨?_, ?_, ?_⟩, ?_⟩
  · rw [set_ne _ _ (show Buf.xs p ≠ .cs p from nofun)]; exact fun g a l => hl.xs g a l (by omega)
  · rw [set_ne _ _ (show Buf.gs p ≠ .cs p from nofun)]; exact fun g a l => hl.gs g a l (by omega)
  · rw [set_self]
    refine is3_whole (α := EReal) (pCs p).inb ?_
    rw [shapeCast_self]
    exact hl.sum
  · rw [set_ne _ _ (show Buf.acc ≠ .cs p from nofun)]
    intro a l
    exact (hl.acc a l).trans (if_pos (by omega))

end Rms

end

end
-- ==== Proof.Rms.Pass2.lean ====
module

public import proofs.«01_k».proof.Proof.Rms.Pass

/-! # The second and the third pass, and a trip of the loop -/

@[expose] public section

set_option maxRecDepth 16384

noncomputable section

namespace Rms

open Idealize.ShloMosaic Idealize.SL.Sem Idealize.ShloMosaic.Pointwise

/-! ## The second pass -/

/-- A round of the second pass: one lane group. -/
def round2 (cinv : EReal) (p : Bool) (r c : FVec Ideal S4x8x128 .f32) (j : Nat) (hj : j < 20) (a : FVec Ideal S4x8x128 .f32) :
    Mem Ideal (FVec Ideal S4x8x128 .f32) :=
  .bind (ld (pGs p j hj)) fun (g : Vec Ideal S4x8x128 .f32) =>
  .bind (ld (pXs p j hj)) fun (x : Vec Ideal S4x8x128 .f32) =>
  .bind (st (pDs p j hj) ⟨rfl, .inl rfl⟩ (shapeCast S4x8x128 (subf g (mulf x (rowK (F := Ideal) cinv r c))) (by decide))) fun _ =>
  .ret (maximumf a (absf (subf g (mulf x (rowK (F := Ideal) cinv r c)))))

theorem round2_eq (cinv : EReal) (p : Bool) (r c : FVec Ideal S4x8x128 .f32) (j : Nat) (hj : j < 20) (a : FVec Ideal S4x8x128 .f32) (s : St Ideal)
    (g x : Vec Ideal S4x8x128 .f32) (hg : g = fun i => s (.gs p) ((pGs p j hj).rect.toLoadRect.idx i))
    (hx : x = fun i => s (.xs p) ((pXs p j hj).rect.toLoadRect.idx i)) :
    run (round2 cinv p r c j hj a) s = (maximumf a (absf (subf g (mulf x (rowK (F := Ideal) cinv r c)))),
      s.set (.ds p) ((pDs p j hj).rect.overlay (s (.ds p)) (shapeCast S4x8x128 (subf g (mulf x (rowK (F := Ideal) cinv r c))) (by decide)))) := by
  subst hg hx
  exact (run_ld _ _ _).trans ((run_ld _ _ _).trans (run_st _ _ _ _ _))

/-- What the second pass over the chunk at `row` leaves in its buffers. -/
structure P2 (B : Blk) (p : Bool) (row : Nat) (s : St Ideal) : Prop where
  ds : Is3 (α := EReal) (s (.ds p)) fun g a l => B.D (row + (8 * g + a)) l
  ms : Is3 (α := EReal) (s (.ms p)) fun g a l => B.M 20 (row + (8 * g + a)) l

/-- The second pass over the chunk at `row`, after `j` lane groups. -/
structure Lane2 (B : Blk) (p : Bool) (row : Nat) (j : Nat) (a : FVec Ideal S4x8x128 .f32) (s : St Ideal) : Prop where
  xs : Is3 (α := EReal) (s (.xs p)) fun g a l => B.X (row + (8 * g + a)) l
  gs : Is3 (α := EReal) (s (.gs p)) fun g a l => B.g (row + (8 * g + a)) l
  ds : On3 (α := EReal) (s (.ds p)) (fun _ _ l => l < 128 * j) fun g a l => B.D (row + (8 * g + a)) l
  top : Is3 (α := EReal) a fun g b l => B.M j (row + (8 * g + b)) l

theorem round2_run {B : Blk} {p : Bool} {row : Nat} {r c : FVec Ideal S4x8x128 .f32}
    (hr : Is3 (α := EReal) r fun g a _ => B.R (row + (8 * g + a))) (hc : Is3 (α := EReal) c fun g a l => B.dot 20 (row + (8 * g + a)) l)
    (j : Nat) (hj : j < 20) (a : FVec Ideal S4x8x128 .f32) (s : St Ideal) (h : Lane2 B p row j a s) :
    Lane2 B p row (j + 1) (run (round2 B.cinv p r c j hj a) s).1 (run (round2 B.cinv p r c j hj a) s).2 := by
  obtain ⟨g, hg⟩ : ∃ g : Vec Ideal S4x8x128 .f32, g = fun i => s (.gs p) ((pGs p j hj).rect.toLoadRect.idx i) := ⟨_, rfl⟩
  obtain ⟨x, hx⟩ : ∃ x : Vec Ideal S4x8x128 .f32, x = fun i => s (.xs p) ((pXs p j hj).rect.toLoadRect.idx i) := ⟨_, rfl⟩
  have ig := is3_load (α := EReal) h.gs (pGs p j hj).inb
  have ix := is3_load (α := EReal) h.xs (pXs p j hj).inb
  rw [round2_eq B.cinv p r c j hj a s g x hg hx]
  have hd : Is3 (α := EReal) (subf g (mulf x (rowK (F := Ideal) B.cinv r c))) fun g a l => B.D (row + (8 * g + a)) (128 * j + l) := by
    subst hg hx
    intro g a l
    refine (is3_subf ig (is3_mulf ix (rowK_is _ _ _ _ _ hr hc)) g a l).trans ?_
    show B.g (row + (8 * (0 + g.val) + (0 + a.val))) _ - B.X (row + (8 * (0 + g.val) + (0 + a.val))) _ * _ = _
    rw [Nat.zero_add, Nat.zero_add]
    rfl
  generalize subf g (mulf x (rowK (F := Ideal) B.cinv r c)) = d at hd
  refine ⟨?_, ?_, ?_, ?_⟩
  · dsimp only
    rw [set_ne s _ (show Buf.xs p ≠ .ds p from nofun)]; exact h.xs
  · dsimp only
    rw [set_ne s _ (show Buf.gs p ≠ .ds p from nofun)]; exact h.gs
  · dsimp only
    rw [set_self s]
    refine on3_store (α := EReal) (pDs p j hj).inb h.ds (W := fun g a l => B.D (row + (8 * g + a)) (128 * j + l)) ?_ ?_ ?_
    · rw [shapeCast_self]; exact hd
    · intro g a l _ _ _ _ h1 h2 _
      rw [show g - 0 = g by omega, show a - 0 = a by omega, show 128 * j + (l - 128 * j) = l by omega]
    · intro g _ a _ l _ h1 h2
      exact ⟨by omega, rfl⟩
  · exact is3_maxabs h.top hd

theorem pass2_eq (cinv : EReal) (row : Nat) (h : RowOK row) (p : Bool) (s : St Ideal) (r c : FVec Ideal S4x8x128 .f32) (hr : r = rowsOf s row h)
    (hc : c = fun i => s (.cs p) ((pCs p).rect.toLoadRect.idx i))
    (q : FVec Ideal S4x8x128 .f32 × St Ideal) (hq : q = run (loopN (N := 20) (round2 cinv p r c) 20 0 rfl (zeros S4x8x128)) s) :
    (run (pass2 (F := Ideal) cinv row h p) s).2 = q.2.set (.ms p) ((pMs p).rect.overlay (q.2 (.ms p)) (shapeCast S4x8x128 q.1 (by decide))) := by
  have e1 : run (pass2 (F := Ideal) cinv row h p) s = run ((fun a => st (pMs p) ⟨rfl, .inl rfl⟩ (shapeCast S4x8x128 a (by decide))) q.1) q.2 := by
    rw [hq, hr, hc]
    unfold pass2
    refine (run_ld (pRb row h) _ s).trans ?_
    refine (run_ld (pCs p) _ s).trans ?_
    exact run_bind (loopN (N := 20) (round2 cinv p (rowsOf s row h) (fun i => s (.cs p) ((pCs p).rect.toLoadRect.idx i))) 20 0 rfl (zeros S4x8x128)) _ _
  rw [e1]
  exact congrArg Prod.snd (run_st' (pMs p) _ _ q.2)

theorem pass2_run {B : Blk} {p : Bool} {row : Nat} (hrow : RowOK row) {s : St Ideal} (h : Base B s) (h1 : P1 B p row s) :
    P2 B p row (run (pass2 (F := Ideal) B.cinv row hrow p) s).2 := by
  have hr := rowsOf_is h row hrow
  obtain ⟨r, e⟩ : ∃ r, r = rowsOf s row hrow := ⟨_, rfl⟩
  rw [← e] at hr
  obtain ⟨c, ec⟩ : ∃ c : FVec Ideal S4x8x128 .f32, c = fun i => s (.cs p) ((pCs p).rect.toLoadRect.idx i) := ⟨_, rfl⟩
  have hc : Is3 (α := EReal) c fun g a l => B.dot 20 (row + (8 * g + a)) l := by
    subst ec
    intro g a l
    refine (is3_load (α := EReal) h1.cs (pCs p).inb g a l).trans ?_
    show B.dot 20 (row + (8 * (0 + g.val) + (0 + a.val))) (0 + l.val) = _
    rw [Nat.zero_add, Nat.zero_add, Nat.zero_add]
  have hl := run_loopN (fun j a s => Lane2 B p row j a s) (N := 20) (body := round2 B.cinv p r c)
    (fun j hj a s' h' => round2_run hr hc j hj a s' h')
    20 0 rfl (zeros S4x8x128) s ⟨h1.xs, h1.gs, fun _ _ _ h => absurd h (by omega), is3_zeros⟩
  obtain ⟨q, hq⟩ : ∃ q, q = run (loopN (N := 20) (round2 B.cinv p r c) 20 0 rfl (zeros S4x8x128)) s := ⟨_, rfl⟩
  rw [← hq] at hl
  rw [pass2_eq B.cinv row hrow p s r c e ec q hq]
  refine ⟨?_, ?_⟩
  · rw [set_ne _ _ (show Buf.ds p ≠ .ms p from nofun)]; exact fun g a l => hl.ds g a l (by omega)
  · rw [set_self]
    refine is3_whole (α := EReal) (pMs p).inb ?_
    rw [shapeCast_self]
    exact hl.top

/-! ## The third pass -/

/-- A round of the third pass: one lane group. -/
def round3 (row : Nat) (h : RowOK row) (p : Bool) (m : Vec Ideal S4x8x128 .f32) (j : Nat) (hj : j < 20) (_ : PUnit) : Mem Ideal PUnit :=
  .bind (ld (pDs p j hj)) fun (d : Vec Ideal S4x8x128 .f32) => st (pCo row h j hj) (pCo_exact row h j hj) (codes d (rowInv m))

/-- The third pass over the chunk at `row`, after `j` lane groups. -/
structure Lane3 (B : Blk) (p : Bool) (row : Nat) (j : Nat) (s : St Ideal) : Prop where
  ds : Is3 (α := EReal) (s (.ds p)) fun g a l => B.D (row + (8 * g + a)) l
  co : On3 (α := EReal) (s .co) (fun _ r l => r < row ∨ (r < row + 32 ∧ l < 128 * j)) fun _ r l => B.Q r l

theorem round3_run {B : Blk} {p : Bool} {row : Nat} (hrow : RowOK row) {m : Vec Ideal S4x8x128 .f32}
    (hm : Is3 (α := EReal) (rowInv m) fun g a _ => B.I (row + (8 * g + a)))
    (j : Nat) (hj : j < 20) (a : PUnit) (s : St Ideal) (h : Lane3 B p row j s) :
    Lane3 B p row (j + 1) (run (round3 row hrow p m j hj a) s).2 := by
  have id := is3_load (α := EReal) h.ds (pDs p j hj).inb
  obtain ⟨d, hd⟩ : ∃ d : Vec Ideal S4x8x128 .f32, d = fun i => s (.ds p) ((pDs p j hj).rect.toLoadRect.idx i) := ⟨_, rfl⟩
  have e : (run (round3 row hrow p m j hj a) s).2 = s.set .co ((pCo row hrow j hj).rect.overlay (s .co) (codes d (rowInv m))) := by
    have e0 : run (round3 row hrow p m j hj a) s = run (st (pCo row hrow j hj) (pCo_exact row hrow j hj) (codes d (rowInv m))) s := by
      subst hd
      exact run_ld (pDs p j hj) _ s
    rw [e0]
    exact congrArg Prod.snd (run_st' (pCo row hrow j hj) _ _ s)
  have hq : Is3 (α := EReal) (codes (F := Ideal) d (rowInv m)) fun _ r l => B.Q (row + r) (128 * j + l) := by
    refine codes_is d (rowInv m) (fun r l => B.D (row + r) (128 * j + l)) (fun r _ => B.I (row + r)) ?_ hm
    subst hd
    intro g a l
    refine (id g a l).trans ?_
    show B.D (row + (8 * (0 + g.val) + (0 + a.val))) _ = _
    rw [Nat.zero_add, Nat.zero_add]
  rw [e]
  refine ⟨?_, ?_⟩
  · rw [set_ne _ _ (show Buf.ds p ≠ .co from nofun)]; exact h.ds
  · rw [set_self]
    refine on3_store (α := EReal) (pCo row hrow j hj).inb h.co hq ?_ ?_
    · intro _ r l _ _ h1 h2 h3 h4 _
      rw [show row + (r - row) = r by omega, show 128 * j + (l - 128 * j) = l by omega]
    · intro g hg r _ l _ h1 h2
      exact ⟨by omega, rfl⟩

theorem pass3_eq (row : Nat) (h : RowOK row) (p : Bool) (s : St Ideal) (m : Vec Ideal S4x8x128 .f32)
    (hm : m = fun i => s (.ms p) ((pMs p).rect.toLoadRect.idx i)) :
    run (pass3 (F := Ideal) row h p) s = run (loopN (N := 20) (round3 row h p m) 20 0 rfl ⟨⟩)
      (s.set .sb ((pSb row h).rect.overlay (s .sb) (shapeCast S32x128 (shapeCast S32x128 (rowScale m) (by decide)) (by decide)))) := by
  subst hm
  unfold pass3
  refine (run_ld (pMs p) _ s).trans ?_
  exact run_st _ _ _ _ _

theorem pass3_run {B : Blk} {p : Bool} {row : Nat} (hrow : RowOK row) {s : St Ideal} (h : P2 B p row s)
    (hsb : On2 (α := EReal) (s .sb) (fun r _ => r < row) fun r _ => B.S r) (hco : On3 (α := EReal) (s .co) (fun _ r _ => r < row) fun _ r l => B.Q r l) :
    On2 (α := EReal) ((run (pass3 (F := Ideal) row hrow p) s).2 .sb) (fun r _ => r < row + 32) (fun r _ => B.S r)
    ∧ On3 (α := EReal) ((run (pass3 (F := Ideal) row hrow p) s).2 .co) (fun _ r _ => r < row + 32) fun _ r l => B.Q r l := by
  obtain ⟨m, em⟩ : ∃ m : Vec Ideal S4x8x128 .f32, m = fun i => s (.ms p) ((pMs p).rect.toLoadRect.idx i) := ⟨_, rfl⟩
  have hm : Is3 (α := EReal) m fun g a l => B.M 20 (row + (8 * g + a)) l := by
    subst em
    intro g a l
    refine (is3_load (α := EReal) h.ms (pMs p).inb g a l).trans ?_
    show B.M 20 (row + (8 * (0 + g.val) + (0 + a.val))) (0 + l.val) = _
    rw [Nat.zero_add, Nat.zero_add, Nat.zero_add]
  have hz := rowZ_is m _ hm
  have hI : Is3 (α := EReal) (rowInv (F := Ideal) m) fun g a _ => B.I (row + (8 * g + a)) := fun g a l => by
    rw [rowInv_eq, hz]; rfl
  have hS : Is3 (α := EReal) (rowScale (F := Ideal) m) fun g a _ => B.S (row + (8 * g + a)) := fun g a l => by
    rw [rowScale_eq, hz]; rfl
  rw [pass3_eq row hrow p s m em]
  have hS' := unrows_is (rowScale (F := Ideal) m) (fun r _ => B.S (row + r)) hS (by decide)
  generalize rowScale (F := Ideal) m = z at hS'
  obtain ⟨s1, e1⟩ : ∃ s1 : St Ideal, s1 = s.set .sb ((pSb row hrow).rect.overlay (s .sb) (shapeCast S32x128 (shapeCast S32x128 z (by decide)) (by decide))) := ⟨_, rfl⟩
  rw [← e1]
  have kb : Keeps (F := Ideal) .sb (loopN (N := 20) (round3 row hrow p m) 20 0 rfl ⟨⟩) :=
    keeps_loopN (fun k hk a => by
      unfold round3
      refine keeps_bind (keeps_ld _) fun d => ?_
      exact keeps_st _ _ _ (show Buf.sb ≠ .co from nofun)) _ _ _ _
  have hl := run_loopN (fun j _ s => Lane3 B p row j s) (N := 20) (body := round3 row hrow p m)
    (fun j hj a s' h' => round3_run hrow hI j hj a s' h')
    20 0 rfl ⟨⟩ s1 ⟨by rw [e1, set_ne _ _ (show Buf.ds p ≠ .sb from nofun)]; exact h.ds, by
      rw [e1, set_ne _ _ (show Buf.co ≠ .sb from nofun)]
      intro g r l hp
      exact hco g r l (by omega)⟩
  refine ⟨?_, fun g r l hr => hl.co g r l (by omega)⟩
  rw [kb, e1, set_self]
  refine on2_store (α := EReal) (pSb row hrow).inb hsb (W := fun r _ => B.S (row + r)) ?_ ?_ ?_
  · rw [shapeCast_self]; exact hS'
  · intro r l h1 h2 _ _ _
    rw [show row + (r - row) = r by omega]
  · intro r _ l _ h1 h2
    exact ⟨by omega, rfl⟩

/-! ## What the passes leave -/

theorem keeps_pass1 (b : Buf) (row : Nat) (h : RowOK row) (p : Bool) (h1 : b ≠ .xs p := by nofun) (h2 : b ≠ .gs p := by nofun)
    (h3 : b ≠ .acc := by nofun) (h4 : b ≠ .cs p := by nofun) : Keeps (F := Ideal) b (pass1 row h p) := by
  have hl : ∀ r x dy j hj a, Keeps (F := Ideal) b (lane1 p r x dy j hj a) := fun r x dy j hj a s =>
    (lane1_bufs p r x dy j hj a s _ _ rfl rfl).2.2.2.1 b h1 h2 h3
  refine keeps_bind (keeps_ld _) fun r => ?_
  refine keeps_bind (keeps_loopN (fun k hk a => ?_) _ _ _ _) fun _ => keeps_st _ _ _ h4
  refine keeps_bind (keeps_ld _) fun x => ?_
  refine keeps_bind (keeps_ld _) fun y => ?_
  exact keeps_bind (hl _ _ _ _ _ _) fun _ => hl _ _ _ _ _ _

theorem keeps_pass2 (b : Buf) (cinv : EReal) (row : Nat) (h : RowOK row) (p : Bool) (h1 : b ≠ .ds p := by nofun) (h2 : b ≠ .ms p := by nofun) :
    Keeps (F := Ideal) b (pass2 (F := Ideal) cinv row h p) := by
  refine keeps_bind (keeps_ld _) fun r => ?_
  refine keeps_bind (keeps_ld _) fun c => ?_
  refine keeps_bind (keeps_loopN (fun k hk a => ?_) _ _ _ _) fun _ => keeps_st _ _ _ h2
  refine keeps_bind (keeps_ld _) fun x => ?_
  refine keeps_bind (keeps_ld _) fun y => ?_
  exact keeps_bind (keeps_st _ _ _ h1) fun _ => keeps_ret _ _

theorem keeps_pass3 (b : Buf) (row : Nat) (h : RowOK row) (p : Bool) (h1 : b ≠ .sb := by nofun) (h2 : b ≠ .co := by nofun) :
    Keeps (F := Ideal) b (pass3 row h p) := by
  refine keeps_bind (keeps_ld _) fun r => ?_
  refine keeps_bind (keeps_st _ _ _ h1) fun _ => ?_
  refine keeps_loopN (fun k hk a => ?_) _ _ _ _
  refine keeps_bind (keeps_ld _) fun x => ?_
  exact keeps_st _ _ _ h2

/-! ## Chunk by chunk -/

/-- `gamma`'s gradient after `n` chunks. -/
def accTo (B : Blk) (A : Nat → Nat → EReal) : Nat → Nat → Nat → EReal
  | 0 => A
  | n + 1 => fun a l => accTo B A n a l + B.T (32 * n) a l

/-- The contents before the third pass over chunk `c`, whose buffers are those of `p`. -/
structure Ph (B : Blk) (A : Nat → Nat → EReal) (c : Nat) (p : Bool) (s : St Ideal) : Prop where
  base : Base B s
  acc : Is2 (α := EReal) (s .acc) (accTo B A (c + 2))
  p2 : P2 B p (32 * c) s
  p1 : P1 B (!p) (32 * (c + 1)) s
  sb : On2 (α := EReal) (s .sb) (fun r _ => r < 32 * c) fun r _ => B.S r
  co : On3 (α := EReal) (s .co) (fun _ r _ => r < 32 * c) fun _ r l => B.Q r l

theorem P1.keep {B : Blk} {p : Bool} {row : Nat} {s s' : St Ideal} (h : P1 B p row s) (h1 : s' (.xs p) = s (.xs p)) (h2 : s' (.gs p) = s (.gs p))
    (h3 : s' (.cs p) = s (.cs p)) : P1 B p row s' :=
  ⟨by rw [h1]; exact h.xs, by rw [h2]; exact h.gs, by rw [h3]; exact h.cs⟩

theorem P2.keep {B : Blk} {p : Bool} {row : Nat} {s s' : St Ideal} (h : P2 B p row s) (h1 : s' (.ds p) = s (.ds p)) (h2 : s' (.ms p) = s (.ms p)) :
    P2 B p row s' :=
  ⟨by rw [h1]; exact h.ds, by rw [h2]; exact h.ms⟩

theorem Base.pass1 {B : Blk} {s : St Ideal} (h : Base B s) (row : Nat) (hr : RowOK row) (p : Bool) : Base B (run (pass1 row hr p) s).2 :=
  h.keep ((keeps_pass1 .x row hr p) s) ((keeps_pass1 .dy row hr p) s) ((keeps_pass1 .gb row hr p) s) ((keeps_pass1 .rb row hr p) s)

theorem Base.pass2 {B : Blk} {s : St Ideal} (h : Base B s) (cinv : EReal) (row : Nat) (hr : RowOK row) (p : Bool) :
    Base B (run (pass2 (F := Ideal) cinv row hr p) s).2 :=
  h.keep ((keeps_pass2 .x cinv row hr p) s) ((keeps_pass2 .dy cinv row hr p) s) ((keeps_pass2 .gb cinv row hr p) s) ((keeps_pass2 .rb cinv row hr p) s)

theorem Base.pass3 {B : Blk} {s : St Ideal} (h : Base B s) (row : Nat) (hr : RowOK row) (p : Bool) :
    Base B (run (pass3 (F := Ideal) row hr p) s).2 :=
  h.keep ((keeps_pass3 .x row hr p) s) ((keeps_pass3 .dy row hr p) s) ((keeps_pass3 .gb row hr p) s) ((keeps_pass3 .rb row hr p) s)

/-- Half a trip: the third pass over chunk `c`, the second over the next, the first over the one after that. -/
theorem halfTrip {B : Blk} {A : Nat → Nat → EReal} {c : Nat} {p : Bool} {s : St Ideal} (h : Ph B A c p s) {r0 r1 r2 : Nat}
    (h0 : RowOK r0) (h1 : RowOK r1) (h2 : RowOK r2) (e0 : r0 = 32 * c) (e1 : r1 = 32 * (c + 1)) (e2 : r2 = 32 * (c + 2)) :
    Ph B A (c + 1) (!p) (run (pass1 r2 h2 p) (run (pass2 (F := Ideal) B.cinv r1 h1 (!p)) (run (pass3 r0 h0 p) s).2).2).2 := by
  subst e0 e1 e2
  obtain ⟨sb3, co3⟩ := pass3_run h0 h.p2 h.sb h.co
  have b3 := h.base.pass3 (32 * c) h0 p
  have p13 := h.p1.keep ((keeps_pass3 (.xs (!p)) (32 * c) h0 p) s) ((keeps_pass3 (.gs (!p)) (32 * c) h0 p) s) ((keeps_pass3 (.cs (!p)) (32 * c) h0 p) s)
  have a3 := (keeps_pass3 .acc (32 * c) h0 p) s
  generalize (run (pass3 (F := Ideal) (32 * c) h0 p) s).2 = s3 at sb3 co3 b3 p13 a3 ⊢
  have q2 := pass2_run h1 b3 p13
  have b2 := b3.pass2 B.cinv (32 * (c + 1)) h1 (!p)
  have a2 := (keeps_pass2 .acc B.cinv (32 * (c + 1)) h1 (!p)) s3
  have sb2 := (keeps_pass2 .sb B.cinv (32 * (c + 1)) h1 (!p)) s3
  have co2 := (keeps_pass2 .co B.cinv (32 * (c + 1)) h1 (!p)) s3
  generalize (run (pass2 (F := Ideal) B.cinv (32 * (c + 1)) h1 (!p)) s3).2 = s2 at q2 b2 a2 sb2 co2 ⊢
  have q1 := pass1_run h2 (p := p) b2 (A := accTo B A (c + 2)) (by rw [a2, a3]; exact h.acc)
  have ne1 : Buf.ds (!p) ≠ .ds p := by simp
  refine ⟨b2.pass1 _ h2 p, q1.2, q2.keep ((keeps_pass1 (.ds (!p)) _ h2 p) s2) ((keeps_pass1 (.ms (!p)) _ h2 p) s2), ?_, ?_, ?_⟩
  · rw [Bool.not_not]; exact q1.1
  · rw [(keeps_pass1 .sb _ h2 p) s2, sb2]; exact sb3
  · rw [(keeps_pass1 .co _ h2 p) s2, co2]; exact co3

end Rms

end

end
-- ==== Proof.Rms.Scale.lean ====
module

public import proofs.«01_k».proof.Proof.Rms.Val

/-! # A row's scale: the search for the exponent field against powers of two -/

@[expose] public section

noncomputable section

namespace Rms

open Idealize.ShloMosaic

/-- The word whose exponent field is `n`. -/
def fld (n : Nat) : BitVec 32 := BitVec.ofNat 32 (n * 8388608)

/-- The float whose exponent field is `n`, its other bits zero. -/
def val (n : Nat) : EReal := if n = 0 then 0 else if n = 255 then ⊤ else (((2 : ℝ) ^ ((n : ℤ) - 127) : ℝ) : EReal)

theorem ofBits_fld (n : Nat) (h : n ≤ 255) : Ideal.ofBits .f32 (fld n) = val n := by
  have e1 : (fld n).toNat = n * 8388608 := by
    rw [fld, BitVec.toNat_ofNat]; omega
  have e2 : ((fld n).extractLsb' 23 8).toNat = n := by
    rw [BitVec.extractLsb'_toNat, e1, Nat.shiftRight_eq_div_pow]; omega
  have e3 : ((fld n).extractLsb' 0 23).toNat = 0 := by
    rw [BitVec.extractLsb'_toNat, e1, Nat.shiftRight_eq_div_pow]; omega
  have e4 : ((fld n).extractLsb' 31 1 == 1#1) = false := by
    rw [beq_eq_false_iff_ne]
    intro h1
    have := congrArg BitVec.toNat h1
    rw [BitVec.extractLsb'_toNat, e1, Nat.shiftRight_eq_div_pow] at this
    simp at this
    omega
  show Ideal.ieee 8 23 (fld n) = _
  simp only [Ideal.ieee, e2, e3, Nat.reduceAdd, e4]
  unfold val
  by_cases h0 : n = 0
  · subst h0; simp
  by_cases h5 : n = 255
  · subst h5; simp
  rw [if_neg (by omega), if_neg h0, if_neg h0, if_neg h5]
  congr 1
  have : ((n : ℤ) - (2 ^ (8 - 1) - 1) - 23) = ((n : ℤ) - 127) + (-23) := by norm_num; ring
  simp only [Nat.cast_ofNat]
  rw [this, zpow_add₀ (by norm_num)]
  norm_num
  ring

theorem fld_add (a b : Nat) : fld a + fld b = fld (a + b) := by
  rw [fld, fld, fld, ← BitVec.ofNat_add, Nat.add_mul]

theorem fld_sub (a b : Nat) (h : b ≤ a) (ha : a ≤ 255) : fld a - fld b = fld (a - b) := by
  rw [← BitVec.toNat_inj, BitVec.toNat_sub]
  simp only [fld, BitVec.toNat_ofNat]
  omega

theorem fld_inj (a b : Nat) (ha : a ≤ 255) (hb : b ≤ 255) (h : fld a = fld b) : a = b := by
  have := congrArg BitVec.toNat h
  simp only [fld, BitVec.toNat_ofNat] at this
  omega

theorem val_mono (a b : Nat) (h : a ≤ b) (hb : b ≤ 255) : val a ≤ val b := by
  unfold val
  split_ifs with h1 h2 h3 h4 h5 h6 <;> first | exact le_rfl | exact le_top | exact bot_le | skip
  all_goals first | omega | skip
  · exact EReal.coe_nonneg.mpr (by positivity)
  · exact EReal.coe_le_coe_iff.mpr (zpow_le_zpow_right₀ (by norm_num) (by omega))

/-- The search finds the field `n` for which `z` lies between the floats of `n` and `n + 1`. -/
theorem exp1_spec (z : EReal) (hz : 0 ≤ z) : ∃ n ≤ 255, exp1 z = fld n ∧ val n ≤ z ∧ (n < 255 → z < val (n + 1)) := by
  have step : ∀ (k a : Nat) (m c : BitVec 32), a + 2 * 2 ^ k ≤ 256 → m = fld a → c = fld (2 ^ k) → val a ≤ z →
      (a + 2 * 2 ^ k < 256 → z < val (a + 2 * 2 ^ k)) →
      ∃ a', a' + 2 ^ k ≤ 256 ∧ step1 z m c = fld a' ∧ val a' ≤ z ∧ (a' + 2 ^ k < 256 → z < val (a' + 2 ^ k)) := by
    intro k a m c ha hm hc h1 h2
    have hk : 1 ≤ 2 ^ k := Nat.one_le_two_pow
    unfold step1
    rw [hm, hc, fld_add, ofBits_fld _ (by omega)]
    by_cases h : z < val (a + 2 ^ k)
    · rw [if_pos h]; exact ⟨a, by omega, rfl, h1, fun _ => h⟩
    · rw [if_neg h]
      refine ⟨a + 2 ^ k, by omega, rfl, not_lt.mp h, fun h3 => ?_⟩
      rw [show a + 2 ^ k + 2 ^ k = a + 2 * 2 ^ k by ring] at h3 ⊢
      exact h2 h3
  unfold exp1
  obtain ⟨a7, b7, e7, l7, u7⟩ := step 7 0 0#32 1073741824#32 (by decide) rfl rfl (by simpa [val] using hz) (fun h => absurd h (by decide))
  obtain ⟨a6, b6, e6, l6, u6⟩ := step 6 a7 _ 536870912#32 (by omega) e7 rfl l7 u7
  obtain ⟨a5, b5, e5, l5, u5⟩ := step 5 a6 _ 268435456#32 (by omega) e6 rfl l6 u6
  obtain ⟨a4, b4, e4, l4, u4⟩ := step 4 a5 _ 134217728#32 (by omega) e5 rfl l5 u5
  obtain ⟨a3, b3, e3, l3, u3⟩ := step 3 a4 _ 67108864#32 (by omega) e4 rfl l4 u4
  obtain ⟨a2, b2, e2, l2, u2⟩ := step 2 a3 _ 33554432#32 (by omega) e3 rfl l3 u3
  obtain ⟨a1, b1, e1, l1, u1⟩ := step 1 a2 _ 16777216#32 (by omega) e2 rfl l2 u2
  obtain ⟨a0, b0, e0, l0, u0⟩ := step 0 a1 _ 8388608#32 (by omega) e1 rfl l1 u1
  exact ⟨a0, by omega, e0, l0, fun h => u0 (by omega)⟩

/-- The reference's exponent of a row whose quotient is `z`. -/
def refE (z : EReal) : EReal :=
  if z < Ideal.ofBits .f32 0x00800000#32 ∨ Ideal.ofBits .f32 0x7E800000#32 ≤ z then 0
  else (∑ k : Fin 252, if (((2 : ℝ) ^ ((k.val : ℤ) - 126) : ℝ) : EReal) ≤ z then (1 : EReal) else 0) - 126

/-- The kernel's scale and reciprocal scale of a row are the powers of two of the reference's exponent. -/
theorem scale_spec (z : EReal) (hz : 0 ≤ z) : ∃ e : ℤ, refE z = ((e : ℝ) : EReal)
    ∧ Ideal.ofBits .f32 (clean1 z + 8388608#32) = (((2 : ℝ) ^ e : ℝ) : EReal)
    ∧ Ideal.ofBits .f32 (2122317824#32 - clean1 z) = (((2 : ℝ) ^ (-e) : ℝ) : EReal) := by
  obtain ⟨n, hn, he, hl, hu⟩ := exp1_spec z hz
  have hlow : Ideal.ofBits .f32 0x00800000#32 = val 1 := ofBits_fld 1 (by decide)
  have hhigh : Ideal.ofBits .f32 0x7E800000#32 = val 253 := ofBits_fld 253 (by decide)
  have fin : ∀ n : Nat, 1 ≤ n → n ≤ 252 → clean1 z = fld n →
      Ideal.ofBits .f32 (clean1 z + 8388608#32) = (((2 : ℝ) ^ ((n : ℤ) - 126) : ℝ) : EReal)
      ∧ Ideal.ofBits .f32 (2122317824#32 - clean1 z) = (((2 : ℝ) ^ (-((n : ℤ) - 126)) : ℝ) : EReal) := by
    intro n h1 h2 h
    rw [h, show (8388608#32 : BitVec 32) = fld 1 from rfl, show (2122317824#32 : BitVec 32) = fld 253 from rfl, fld_add,
      fld_sub _ _ (by omega) (by decide), ofBits_fld _ (by omega), ofBits_fld _ (by omega)]
    unfold val
    rw [if_neg (by omega), if_neg (by omega), if_neg (by omega), if_neg (by omega)]
    refine ⟨?_, ?_⟩ <;> congr 2
    · push_cast; ring
    · rw [Nat.cast_sub (by omega)]; push_cast; ring
  by_cases h : z < val 1 ∨ val 253 ≤ z
  · refine ⟨0, ?_, ?_⟩
    · rw [refE, hlow, hhigh, if_pos h]; simp
    · have : clean1 z = fld 126 := by
        unfold clean1
        rw [hhigh]
        dsimp only
        by_cases h3 : z < val 253
        · rw [if_pos h3, he, if_pos]; · rfl
          left
          have h4 : z < val 1 := h.resolve_right (not_le.mpr h3)
          have : n = 0 := by
            by_contra h0
            exact absurd (lt_of_le_of_lt (le_trans (val_mono 1 n (by omega) hn) hl) h4) (lt_irrefl _)
          rw [this]; rfl
        · rw [if_neg h3, if_pos (.inr rfl)]; rfl
      have := fin 126 (by decide) (by decide) this
      simpa using this
  · rw [not_or, not_lt, not_le] at h
    have h1 : 1 ≤ n := by
      by_contra h0
      have h0 : n = 0 := by omega
      subst h0
      exact absurd (lt_of_le_of_lt h.1 (hu (by decide))) (lt_irrefl _)
    have h2 : n ≤ 252 := by
      by_contra h0
      exact absurd (lt_of_le_of_lt (le_trans (val_mono 253 n (by omega) hn) hl) h.2) (lt_irrefl _)
    have hc : clean1 z = fld n := by
      unfold clean1
      rw [hhigh, if_pos h.2, he]
      dsimp only
      rw [if_neg]
      rintro (h3 | h3)
      · exact absurd (fld_inj n 0 hn (by decide) h3) (by omega)
      · exact absurd (fld_inj n 255 hn (by decide) h3) (by omega)
    refine ⟨(n : ℤ) - 126, ?_, fin n h1 h2 hc⟩
    rw [refE, hlow, hhigh, if_neg (by rw [not_or, not_lt, not_le]; exact h)]
    have hk : ∀ k : Fin 252, ((((2 : ℝ) ^ ((k.val : ℤ) - 126) : ℝ) : EReal) ≤ z) ↔ k.val < n := by
      intro k
      have hv : val (k.val + 1) = (((2 : ℝ) ^ ((k.val : ℤ) - 126) : ℝ) : EReal) := by
        unfold val
        rw [if_neg (by omega), if_neg (by omega)]
        congr 2
        push_cast; ring
      rw [← hv]
      constructor
      · intro h3
        by_contra h4
        exact absurd (lt_of_le_of_lt (le_trans (val_mono (n + 1) (k.val + 1) (by omega) (by omega)) h3) (hu (by omega))) (lt_irrefl _)
      · intro h3
        exact le_trans (val_mono _ n (by omega) hn) hl
    simp only [hk]
    have hs : (∑ k : Fin 252, if k.val < n then (1 : EReal) else 0) = ((n : ℝ) : EReal) := by
      rw [Finset.sum_boole, Fin.card_filter_val_lt, min_eq_right (by omega)]
      simp
    rw [hs]
    push_cast
    rfl

end Rms

end

end
-- ==== Proof.Rms.Spec.lean ====
module

public import proofs.«01_k».proof.Proof.Rms.Pass2
public import proofs.«01_k».proof.Proof.Rms.Scale

/-! # The reference's row values and the kernel's are equal

A block's rows as the reference writes them, against the same rows as the kernel computes them. -/

@[expose] public section

noncomputable section

namespace Rms

open Idealize.ShloMosaic

/-- A sum over `n * k` numbers, taken in `n` runs of `k`. -/
theorem sum_runs {α : Type} [AddCommMonoid α] (n k : Nat) (f : Nat → α) :
    ∑ j ∈ Finset.range (n * k), f j = ∑ i ∈ Finset.range n, ∑ j ∈ Finset.range k, f (k * i + j) := by
  induction n with
  | zero => simp
  | succ n ih => rw [Nat.succ_mul, Finset.sum_range_add, ih, Finset.sum_range_succ, Nat.mul_comm n k]

namespace Blk

variable (A : Blk)

/-- The weighted gradient. -/
def gr (i l : Nat) : EReal := A.Y i l * A.G l
/-- The normalised row. -/
def xh (i l : Nat) : EReal := A.X i l * A.R i
/-- The mean of their products. -/
def mean (i : Nat) : EReal := Ideal.div (∑ k : Fin 2560, A.gr i k.val * A.xh i k.val) (Ideal.ofBits .f32 0x45200000#32)
/-- The gradient as the reference writes it. -/
def dx (i l : Nat) : EReal := A.R i * (A.gr i l - A.xh i l * A.mean i)
/-- The quotient from which the reference reads the row's scale. -/
def z (i : Nat) : EReal :=
  (Finset.univ.fold max ⊥ fun k : Fin 2560 => max (A.dx i k.val) (-A.dx i k.val)) * Ideal.ofBits .f32 0x37924925#32

theorem d_bits : Ideal.ofBits .f32 0x45200000#32 = ((2560 : ℝ) : EReal) := by
  norm_num [Ideal.ofBits, Ideal.ieee, Nat.shiftRight_eq_div_pow, show ¬ BitVec.extractLsb' 31 1 1159725056#32 = 1#1 by decide]

theorem dot_eq (i : Nat) : (∑ k : Fin 128, A.dot 20 i k.val) = ∑ k : Fin 2560, A.gr i k.val * A.xh i k.val := by
  rw [Fin.sum_univ_eq_sum_range (fun k => A.dot 20 i k) 128, Fin.sum_univ_eq_sum_range (fun k => A.gr i k * A.xh i k) 2560,
    show 2560 = 20 * 128 from rfl, sum_runs, Finset.sum_comm]
  refine Finset.sum_congr rfl fun k _ => Finset.sum_congr rfl fun j _ => ?_
  unfold g gr xh
  generalize A.X i _ = x, A.Y i _ = y, A.G _ = w, A.R i = r
  ac_rfl

variable (hc : A.cinv = ((1 / 2560 : ℝ) : EReal))

include hc in
theorem dx_eq (i l : Nat) (h0 : 0 ≤ A.R i) (ht : A.R i ≠ ⊤) : A.dx i l = A.D i l := by
  unfold dx D K mean
  rw [dot_eq, d_bits, Ideal.div_coe (by norm_num), ← hc, sub_eq_add_neg, EReal.left_distrib_of_nonneg_of_ne_top h0 ht, mul_neg, ← sub_eq_add_neg]
  unfold g xh
  congr 1
  · unfold gr
    ac_rfl
  · generalize A.X i _ = x, A.R i = r, (∑ k : Fin 2560, A.gr i k.val * A.xh i k.val) = s, A.cinv = v
    ac_rfl

theorem M_le (n i l : Nat) (a : EReal) (ha : 0 ≤ a) :
    A.M n i l ≤ a ↔ ∀ j < n, max (A.D i (128 * j + l)) (-A.D i (128 * j + l)) ≤ a := by
  induction n with
  | zero => simpa [M] using ha
  | succ n ih =>
    unfold M
    rw [max_le_iff, ih, Nat.forall_lt_succ_right]

theorem abs_nonneg' (x : EReal) : 0 ≤ max x (-x) := by
  rcases le_total 0 x with h | h
  · exact le_max_of_le_left h
  · exact le_max_of_le_right (EReal.neg_nonneg.mpr h)

theorem M_nonneg (n i l : Nat) : 0 ≤ A.M n i l := by
  cases n with
  | zero => exact le_rfl
  | succ n => exact le_max_of_le_right (abs_nonneg' _)

theorem fold_max_le {n : Nat} (f : Fin n → EReal) (a : EReal) : Finset.univ.fold max ⊥ f ≤ a ↔ ∀ k, f k ≤ a := by
  rw [Finset.fold_max_le]
  simp

/-- The largest magnitude of a row, over lane groups or over the whole row at once. -/
theorem max_eq (i : Nat) :
    (Finset.univ.fold max ⊥ fun k : Fin 2560 => max (A.D i k.val) (-A.D i k.val)) = Finset.univ.fold max ⊥ fun k : Fin 128 => A.M 20 i k.val := by
  refine eq_of_forall_ge_iff fun a => ?_
  rw [fold_max_le, fold_max_le]
  constructor
  · intro h k
    have ha : 0 ≤ a := (abs_nonneg' _).trans (h ⟨0, by decide⟩)
    exact (A.M_le 20 i k.val a ha).mpr fun j hj => h ⟨128 * j + k.val, by have := k.isLt; omega⟩
  · intro h k
    have ha : 0 ≤ a := (A.M_nonneg 20 i 0).trans (h ⟨0, by decide⟩)
    have hk := k.isLt
    have := (A.M_le 20 i (k.val % 128) a ha).mp (h ⟨k.val % 128, Nat.mod_lt _ (by decide)⟩) (k.val / 128) (by omega)
    rwa [show 128 * (k.val / 128) + k.val % 128 = k.val from Nat.div_add_mod _ _] at this

include hc in
theorem z_eq (i : Nat) (h0 : 0 ≤ A.R i) (ht : A.R i ≠ ⊤) : A.z i = A.Z i := by
  unfold z Z
  simp only [A.dx_eq hc i _ h0 ht]
  rw [max_eq]

theorem Z_nonneg (i : Nat) : 0 ≤ A.Z i := by
  refine mul_nonneg ?_ ?_
  · rw [← max_eq]
    exact (abs_nonneg' (A.D i 0)).trans ((fold_max_le (fun k : Fin 2560 => max (A.D i k.val) (-A.D i k.val)) _).mp le_rfl ⟨0, by decide⟩)
  · norm_num [Ideal.ofBits, Ideal.ieee, Nat.shiftRight_eq_div_pow, show ¬ BitVec.extractLsb' 31 1 932333861#32 = 1#1 by decide]

theorem two_bits : Ideal.ofBits .f32 0x40000000#32 = ((2 : ℝ) : EReal) := by
  norm_num [Ideal.ofBits, Ideal.ieee, Nat.shiftRight_eq_div_pow, show ¬ BitVec.extractLsb' 31 1 1073741824#32 = 1#1 by decide]

/-- A power of two, as `stablehlo.power` computes it. -/
theorem pow_two (e : ℤ) : Ideal.pow (Ideal.ofBits .f32 0x40000000#32) (((e : ℝ) : ℝ) : EReal) = (((2 : ℝ) ^ e : ℝ) : EReal) := by
  rw [show Ideal.ofBits .f32 0x40000000#32 = ((2 : ℝ) : EReal) from two_bits, Ideal.pow_coe_coe]
  exact congrArg _ (Real.rpow_intCast 2 e)

/-- The kernel's scale is two to the reference's exponent. -/
theorem S_eq (i : Nat) : A.S i = Ideal.pow (Ideal.ofBits .f32 0x40000000#32) (refE (A.Z i)) := by
  obtain ⟨e, h, hs, _⟩ := scale_spec (A.Z i) (A.Z_nonneg i)
  rw [h, pow_two]
  exact hs

/-- The kernel's reciprocal scale is two to its negative. -/
theorem I_eq (i : Nat) : A.I i = Ideal.pow (Ideal.ofBits .f32 0x40000000#32) (-refE (A.Z i)) := by
  obtain ⟨e, h, _, hs⟩ := scale_spec (A.Z i) (A.Z_nonneg i)
  rw [h, show -((e : ℝ) : EReal) = (((-e : ℤ) : ℝ) : EReal) by rw [Int.cast_neg, EReal.coe_neg], pow_two]
  exact hs

end Blk

/-- What a block adds to `gamma`'s gradient, over the eight rows of the accumulator. -/
theorem sum_accTo (A : Blk) (C : Nat → Nat → EReal) (l n : Nat) :
    ∑ a ∈ Finset.range 8, accTo A C n a l = (∑ a ∈ Finset.range 8, C a l) + ∑ i ∈ Finset.range (n * 32), A.Y i l * A.xh i l := by
  induction n with
  | zero => simp [accTo]
  | succ n ih =>
    rw [Nat.succ_mul, Finset.sum_range_add, ← add_assoc, ← ih]
    have hs (a : Nat) : accTo A C (n + 1) a l = accTo A C n a l + A.T (32 * n) a l := rfl
    simp only [hs]
    rw [Finset.sum_add_distrib]
    congr 1
    rw [show 32 = 4 * 8 from rfl, sum_runs, Finset.sum_comm]
    refine Finset.sum_congr rfl fun a _ => ?_
    have ht (r : Nat) : A.t r l = A.Y r l * A.xh r l := by
      unfold Blk.t Blk.xh
      rw [mul_left_comm]
    unfold Blk.T
    simp only [ht, Finset.sum_range_succ, Finset.sum_range_zero, zero_add]
    rw [← add_assoc, show n * (4 * 8) = 4 * 8 * n from Nat.mul_comm _ _]

end Rms

end

end
-- ==== Proof.Rms.Point.lean ====
module

public import proofs.«01_k».proof.Proof.Rms.Pass2

/-! # One grid point, over the extended reals -/

@[expose] public section

set_option maxRecDepth 16384

noncomputable section

namespace Rms

open Idealize.ShloMosaic Idealize.SL.Sem Idealize.ShloMosaic.Pointwise

/-! ## The row factors along the lanes -/

/-- A lane group of the row factors, along eight rows. -/
def along (v : Vec Ideal S1x1x128 .f32) : FVec Ideal S8x128 .f32 :=
  broadcastTo (s := S1x128) S8x128 (shapeCast (s := S1x128) S1x128 (shapeCast (s := S1x1x128) S1x128 v (by decide)) (by decide)) (by decide)

/-- Eight rows' factors. -/
def roundS (q : Nat) (hq : q < 8) (v : Vec Ideal S1x1x128 .f32) (s : Nat) (hs : s < 16) (_ : PUnit) : Mem Ideal PUnit :=
  st (pRb8 q s hq hs) ⟨rfl, .inl rfl⟩ (shapeCast S8x128
    (spreadRow (along v) s) (by decide))

/-- 128 rows' factors. -/
def roundQ (q : Nat) (hq : q < 8) (_ : PUnit) : Mem Ideal PUnit :=
  .bind (ld (pRs q hq)) fun (v : Vec Ideal S1x1x128 .f32) => loopN (N := 16) (roundS q hq v) 16 0 rfl ⟨⟩

theorem roundS_run {R : Nat → EReal} (q : Nat) (hq : q < 8) {v : Vec Ideal S1x1x128 .f32} (hv : Is3 (α := EReal) v fun _ _ l => R (128 * q + l))
    (n : Nat) (hn : n < 16) (a : PUnit) (s : St Ideal) (h : On2 (α := EReal) (s .rb) (fun r _ => r < 128 * q + 8 * n) fun r _ => R r) :
    On2 (α := EReal) ((run (roundS q hq v n hn a) s).2 .rb) (fun r _ => r < 128 * q + 8 * (n + 1)) fun r _ => R r := by
  have hb : Is2 (α := EReal) (along v) fun _ l => R (128 * q + l) := by
    intro a l
    pointwise [along]
    exact hv _ _ _
  have hs := spreadRow_is _ (fun l => R (128 * q + l)) hb n hn
  have e : (run (roundS q hq v n hn a) s).2 = s.set .rb ((pRb8 q n hq hn).rect.overlay (s .rb) (shapeCast S8x128
      (spreadRow (along v) n) (by decide))) :=
    congrArg Prod.snd (run_st' (pRb8 q n hq hn) _ _ s)
  rw [e, set_self]
  refine on2_store (α := EReal) (pRb8 q n hq hn).inb h (W := fun a _ => R (128 * q + (8 * n + a))) ?_ ?_ ?_
  · rw [shapeCast_self]; exact hs
  · intro r l h1 h2 _ _ _
    rw [show 128 * q + (8 * n + (r - (128 * q + 8 * n))) = r by omega]
  · intro r _ l _ h1 h2
    exact ⟨by omega, rfl⟩

theorem keeps_roundQ (b : Buf) (h : b ≠ .rb) (q : Nat) (hq : q < 8) (a : PUnit) : Keeps (F := Ideal) b (roundQ q hq a) := by
  refine keeps_bind (keeps_ld _) fun v => ?_
  exact keeps_loopN (fun k hk a => by unfold roundS; exact keeps_st _ _ _ h) _ _ _ _

theorem spread_eq : spread (F := Ideal) = loopN (N := 8) roundQ 8 0 rfl ⟨⟩ := rfl

theorem keeps_spread (b : Buf) (h : b ≠ .rb) : Keeps (F := Ideal) b spread := by
  rw [spread_eq]
  exact keeps_loopN (fun k hk a => keeps_roundQ b h k hk a) _ _ _ _

theorem spread_run {R : Nat → EReal} (s : St Ideal) (h : Is3 (α := EReal) (s .rs) fun _ _ r => R r) :
    Is2 (α := EReal) ((run spread s).2 .rb) fun r _ => R r := by
  rw [spread_eq]
  have hl := run_loopN (fun q _ s => (Is3 (α := EReal) (s .rs) fun _ _ r => R r) ∧ On2 (α := EReal) (s .rb) (fun r _ => r < 128 * q) fun r _ => R r)
    (N := 8) (body := roundQ) (fun q hq a s h => by
      refine ⟨by rw [keeps_roundQ .rs nofun q hq a s]; exact h.1, ?_⟩
      have hv := is3_load (α := EReal) h.1 (pRs q hq).inb
      obtain ⟨v, ev⟩ : ∃ v : Vec Ideal S1x1x128 .f32, v = fun i => s .rs ((pRs q hq).rect.toLoadRect.idx i) := ⟨_, rfl⟩
      have e : run (roundQ q hq a) s = run (loopN (N := 16) (roundS q hq v) 16 0 rfl ⟨⟩) s := by
        subst ev
        exact run_ld (pRs q hq) _ s
      rw [e]
      have hl := run_loopN (fun n _ s => On2 (α := EReal) (s .rb) (fun r _ => r < 128 * q + 8 * n) fun r _ => R r) (N := 16) (body := roundS q hq v)
        (fun n hn a s h => roundS_run q hq (by subst ev; exact hv) n hn a s h) 16 0 rfl ⟨⟩ s h.2
      intro r l hr
      exact hl r l (by omega))
    8 0 rfl ⟨⟩ s ⟨h, fun _ _ h => absurd h (by omega)⟩
  exact fun r l => hl.2 r l (by omega)

/-! ## The scales, from the lanes to one row -/

/-- One step of the gathering: eight rows' scales. -/
def roundG (q : Nat) (hq : q < 8) (s : Nat) (hs : s < 16) (a : FVec Ideal S8x128 .f32) : Mem Ideal (FVec Ideal S8x128 .f32) :=
  .bind (ld (pSb8 q s hq hs)) fun (v : Vec Ideal S8x128 .f32) => .ret (addf a (diag v s))

/-- 128 rows' scales. -/
def roundH (q : Nat) (hq : q < 8) (_ : PUnit) : Mem Ideal PUnit :=
  .bind (loopN (N := 16) (roundG q hq) 16 0 rfl (zeros S8x128)) fun a =>
  st (pSc q hq) ⟨rfl, .inl rfl⟩ (shapeCast S1x1x128 (shapeCast S1x128
    (multiReduction .add [0] S128 a 0x00000000#32 (by decide) (.inl rfl) rfl) (by decide)) (by decide))

theorem gather_eq : gather (F := Ideal) = loopN (N := 8) roundH 8 0 rfl ⟨⟩ := rfl

/-- Of the sixteen diagonals in eight rows, one meets a lane. -/
theorem diag_sum (v : EReal) (l : Nat) (hl : l < 128) :
    (∑ a : Fin 8, ∑ i ∈ Finset.range 16, if l = 8 * i + a.val then v else 0) = v := by
  rw [Finset.sum_eq_single (⟨l % 8, by omega⟩ : Fin 8), Finset.sum_eq_single (l / 8)]
  · rw [if_pos (by simp only; omega)]
  · intro i _ hi
    rw [if_neg (by simp only; omega)]
  · intro h
    exact absurd (Finset.mem_range.mpr (by omega)) h
  · intro a _ ha
    refine Finset.sum_eq_zero fun i _ => if_neg fun h => ha (Fin.ext ?_)
    have := a.isLt
    simp only
    omega
  · exact fun h => absurd (Finset.mem_univ _) h

theorem roundH_run {S : Nat → EReal} (q : Nat) (hq : q < 8) (a : PUnit) (s : St Ideal) (hsb : Is2 (α := EReal) (s .sb) fun r _ => S r)
    (h : On3 (α := EReal) (s .sc) (fun _ _ r => r < 128 * q) fun _ _ r => S r) :
    On3 (α := EReal) ((run (roundH q hq a) s).2 .sc) (fun _ _ r => r < 128 * (q + 1)) fun _ _ r => S r := by
  have hl := run_loopN (fun n (a : FVec Ideal S8x128 .f32) s' => s' = s ∧ Is2 (α := EReal) a fun b l => ∑ i ∈ Finset.range n, if l = 8 * i + b then S (128 * q + l) else 0)
    (N := 16) (body := roundG q hq) (fun n hn a s' h => by
      obtain ⟨rfl, ha⟩ := h
      have hv := is2_load (α := EReal) hsb (pSb8 q n hq hn).inb
      have hd := is2_addf ha (diag_is _ (fun a => S (128 * q + 8 * n + a)) hv n hn)
      have e := run_ld (pSb8 q n hq hn) (fun (v : Vec Ideal S8x128 .f32) => (.ret (addf a (diag v n)) : Mem Ideal (FVec Ideal S8x128 .f32))) s'
      refine ⟨congrArg Prod.snd e, ?_⟩
      have e1 := congrArg Prod.fst e
      intro b l
      refine (congrFun e1 _).trans ((hd b l).trans ?_)
      show _ + _ = ∑ i ∈ Finset.range (n + 1), if l.val = 8 * i + b.val then S (128 * q + l.val) else 0
      rw [Finset.sum_range_succ]
      congr 1
      by_cases hb : l.val = 8 * n + b.val
      · rw [if_pos hb, if_pos hb, hb, Nat.add_assoc]
      · rw [if_neg hb, if_neg hb])
    16 0 rfl (zeros S8x128) s ⟨rfl, fun i j => by rw [is2_zeros i j]; simp⟩
  obtain ⟨p, hp⟩ : ∃ p, p = run (loopN (N := 16) (roundG q hq) 16 0 rfl (zeros S8x128)) s := ⟨_, rfl⟩
  rw [← hp] at hl
  obtain ⟨h1, h2⟩ := hl
  obtain ⟨w, hw⟩ : ∃ w : Vec Ideal S1x1x128 .f32, w = shapeCast S1x1x128 (shapeCast S1x128
    (multiReduction .add [0] S128 p.1 0x00000000#32 (by decide) (.inl rfl) rfl) (by decide)) (by decide) := ⟨_, rfl⟩
  have e : (run (roundH q hq a) s).2 = s.set .sc ((pSc q hq).rect.overlay (s .sc) w) := by
    have e0 : run (roundH q hq a) s = run (st (pSc q hq) ⟨rfl, .inl rfl⟩ w) p.2 := by
      rw [hw, hp]
      unfold roundH
      exact run_bind (loopN (N := 16) (roundG q hq) 16 0 rfl (zeros S8x128)) _ _
    rw [e0, h1]
    exact congrArg Prod.snd (run_st' (pSc q hq) _ _ s)
  have hw' : Is3 (α := EReal) w fun _ _ l => S (128 * q + l) := by
    subst hw
    intro i j l
    pointwise
    simp only [h2 _ _]
    exact diag_sum _ _ l.isLt
  rw [e, set_self]
  refine on3_store (α := EReal) (pSc q hq).inb h hw' ?_ ?_
  · intro _ _ l _ _ _ _ h3 h4 _
    rw [show 128 * q + (l - 128 * q) = l by omega]
  · intro i hi j hj l _ h3 h4
    exact ⟨by omega, rfl⟩

theorem keeps_roundH (b : Buf) (h : b ≠ .sc) (q : Nat) (hq : q < 8) (a : PUnit) : Keeps (F := Ideal) b (roundH q hq a) := by
  refine keeps_bind (keeps_loopN (fun k hk a => ?_) _ _ _ _) fun v => keeps_st _ _ _ h
  refine keeps_bind (keeps_ld _) fun v => ?_
  exact keeps_ret _ _

theorem keeps_gather (b : Buf) (h : b ≠ .sc) : Keeps (F := Ideal) b gather := by
  rw [gather_eq]
  exact keeps_loopN (fun k hk a => keeps_roundH b h k hk a) _ _ _ _

theorem gather_run {S : Nat → EReal} (s : St Ideal) (h : Is2 (α := EReal) (s .sb) fun r _ => S r) :
    Is3 (α := EReal) ((run gather s).2 .sc) fun _ _ r => S r := by
  rw [gather_eq]
  have hl := run_loopN (fun q _ s => (Is2 (α := EReal) (s .sb) fun r _ => S r) ∧ On3 (α := EReal) (s .sc) (fun _ _ r => r < 128 * q) fun _ _ r => S r)
    (N := 8) (body := roundH) (fun q hq a s h =>
      ⟨by rw [keeps_roundH .sb nofun q hq a s]; exact h.1, roundH_run q hq a s h.1 h.2⟩)
    8 0 rfl ⟨⟩ s ⟨h, fun _ _ _ h => absurd h (by omega)⟩
  exact fun i j r => hl.2 i j r (by omega)

/-! ## The first and the last point -/

theorem init_run {G : Nat → EReal} (s : St Ideal) (h : Is2 (α := EReal) (s .gam) fun _ l => G l) :
    (Is2 (α := EReal) ((run initBufs s).2 .gb) fun _ l => G l) ∧ (Is2 (α := EReal) ((run initBufs s).2 .acc) fun _ _ => 0)
    ∧ ∀ b, b ≠ .gb → b ≠ .acc → (run initBufs s).2 b = s b := by
  have hv := is2_load (α := EReal) h pGam.inb
  obtain ⟨g, eg⟩ : ∃ g : Vec Ideal S1x2560 .f32, g = fun i => s .gam (pGam.rect.toLoadRect.idx i) := ⟨_, rfl⟩
  obtain ⟨w, ew⟩ : ∃ w : Vec Ideal S8x2560 .f32, w = shapeCast (s := S8x2560) S8x2560 (broadcastTo (s := S1x2560) S8x2560 (shapeCast (s := S1x2560) S1x2560 (shapeCast (s := S1x2560) S1x2560 g (by decide)) (by decide)) (by decide)) (by decide) := ⟨_, rfl⟩
  obtain ⟨s1, es⟩ : ∃ s1 : St Ideal, s1 = s.set .gb (pGb.rect.overlay (s .gb) w) := ⟨_, rfl⟩
  have e : (run initBufs s).2 = s1.set .acc (pAcc.rect.overlay (s1 .acc) (shapeCast (s := S8x2560) S8x2560 (zeros (F := Ideal) S8x2560) (by decide))) := by
    have e0 : run (initBufs (F := Ideal)) s = run (st pAcc ⟨rfl, .inl rfl⟩ (shapeCast (s := S8x2560) S8x2560 (zeros (F := Ideal) S8x2560) (by decide))) s1 := by
      subst es ew eg
      unfold initBufs
      refine (run_ld pGam _ s).trans ?_
      exact run_bind (st pGb _ _) _ s
    rw [e0]
    exact congrArg Prod.snd (run_st' pAcc _ _ s1)
  rw [e]
  refine ⟨?_, ?_, ?_⟩
  · rw [set_ne s1 _ (show Buf.gb ≠ .acc from nofun), es, set_self]
    refine is2_whole (α := EReal) pGb.inb ?_
    subst ew eg
    intro i l
    pointwise
    exact h _ _
  · rw [set_self]
    refine is2_whole (α := EReal) pAcc.inb ?_
    rw [shapeCast_self]
    exact is2_zeros
  · intro b h1 h2
    rw [set_ne s1 _ h2, es, set_ne s _ h1]

/-- The sum of the rows. -/
def colSum (a : FVec Ideal S8x2560 .f32) : Vec Ideal S1x2560 .f32 :=
  shapeCast (s := S2560) S1x2560 (multiReduction (F := Ideal) (s := S8x2560) .add [0] S2560 a 0x00000000#32 (by decide) (.inl rfl) rfl) (by decide)

theorem finish_run {A : Nat → Nat → EReal} (s : St Ideal) (h : Is2 (α := EReal) (s .acc) A) :
    (Is2 (α := EReal) ((run finish s).2 .dg) fun _ l => ∑ a : Fin 8, A a.val l) ∧ ∀ b, b ≠ .dg → (run finish s).2 b = s b := by
  have hv := is2_load (α := EReal) h pAcc.inb
  obtain ⟨a, ea⟩ : ∃ a : Vec Ideal S8x2560 .f32, a = fun i => s .acc (pAcc.rect.toLoadRect.idx i) := ⟨_, rfl⟩
  obtain ⟨w, ew⟩ : ∃ w : Vec Ideal S1x2560 .f32, w = colSum a := ⟨_, rfl⟩
  have e : (run finish s).2 = s.set .dg (pDg.rect.overlay (s .dg) w) := by
    have e0 : run (finish (F := Ideal)) s = run (st pDg ⟨rfl, .inl rfl⟩ w) s := by
      subst ew ea
      unfold finish
      exact run_ld pAcc _ s
    rw [e0]
    exact congrArg Prod.snd (run_st' pDg _ _ s)
  rw [e]
  refine ⟨?_, fun b hb => set_ne s _ hb⟩
  rw [set_self]
  refine is2_whole (α := EReal) pDg.inb ?_
  subst ew
  have ha : Is2 (α := EReal) a A := by
    subst ea
    intro i l
    refine (hv i l).trans ?_
    show A (0 + i.val) (0 + l.val) = _
    rw [Nat.zero_add, Nat.zero_add]
  intro i l
  pointwise [colSum]
  simp only [ha _ _]

/-! ## The whole point -/

theorem tripsTo_run {B : Blk} {A : Nat → Nat → EReal} {s : St Ideal} (h : Ph B A 0 false s) :
    ∀ k ≤ 15, Ph B A (2 * k) false (tripsTo (F := Ideal) B.cinv s k)
  | 0, _ => by rw [tripsTo_zero]; exact h
  | k + 1, hk => by
    have ih := tripsTo_run h k (by omega)
    rw [tripsTo_succ (F := Ideal) B.cinv s k (by omega)]
    generalize tripsTo (F := Ideal) B.cinv s k = s1 at ih ⊢
    have lt : k < 15 := by omega
    have h1 := halfTrip ih (rowOld_ok k lt 0 (by omega) 1 (by omega)) (rowOld_ok k lt 0 (by omega) 0 (by omega)) (rowNew_ok k lt 0 (by omega))
      ((rowOld_eq k lt 0 (by omega) 1 (by omega)).trans (by omega)) ((rowOld_eq k lt 0 (by omega) 0 (by omega)).trans (by omega))
      ((rowNew_eq k lt 0 (by omega)).trans (by omega))
    have h2 := halfTrip h1 (rowOld_ok k lt 1 (by omega) 1 (by omega)) (rowOld_ok k lt 1 (by omega) 0 (by omega)) (rowNew_ok k lt 1 (by omega))
      ((rowOld_eq k lt 1 (by omega) 1 (by omega)).trans (by omega)) ((rowOld_eq k lt 1 (by omega) 0 (by omega)).trans (by omega))
      ((rowNew_eq k lt 1 (by omega)).trans (by omega))
    unfold trip
    rw [run_bind, run_bind, run_bind, run_bind, run_bind]
    exact h2

theorem accTo_one (B : Blk) (A : Nat → Nat → EReal) : accTo B A 1 = fun a l => A a l + B.T 0 a l := rfl

theorem accTo_two (B : Blk) (A : Nat → Nat → EReal) : accTo B A 2 = fun a l => accTo B A 1 a l + B.T 32 a l := rfl

theorem Ph.start {B : Blk} {A : Nat → Nat → EReal} {s : St Ideal} (hb : Base B s) (ha : Is2 (α := EReal) (s .acc) (accTo B A 2))
    (h2 : P2 B false 0 s) (h1 : P1 B true 32 s) : Ph B A 0 false s :=
  ⟨hb, ha, h2, h1, fun _ _ h => absurd h (by omega), fun _ _ _ h => absurd h (by omega)⟩

theorem pre_run {B : Blk} {A : Nat → Nat → EReal} {s : St Ideal} (hx : Is3 (α := EReal) (s .x) fun _ r l => B.X r l)
    (hy : Is3 (α := EReal) (s .dy) fun _ r l => B.Y r l) (hr : Is3 (α := EReal) (s .rs) fun _ _ r => B.R r)
    (hg : Is2 (α := EReal) (s .gb) fun _ l => B.G l) (hA : Is2 (α := EReal) (s .acc) A) :
    Ph B A 0 false (run (pre (F := Ideal) B.cinv) s).2 := by
  unfold pre
  rw [run_bind, run_bind, run_bind]
  have b0 : Base B (run spread s).2 := ⟨by rw [keeps_spread .x nofun s]; exact hx, by rw [keeps_spread .dy nofun s]; exact hy,
    by rw [keeps_spread .gb nofun s]; exact hg, spread_run s hr⟩
  have a0 : Is2 (α := EReal) ((run spread s).2 .acc) A := by rw [keeps_spread .acc nofun s]; exact hA
  generalize (run (spread (F := Ideal)) s).2 = s0 at b0 a0 ⊢
  have h0 : RowOK 0 := rowOK 0 (by omega)
  have h1 : RowOK 32 := rowOK 1 (by omega)
  obtain ⟨p1, a1⟩ := pass1_run h0 (p := false) b0 a0
  rw [← accTo_one] at a1
  have b1 := b0.pass1 0 h0 false
  generalize (run (pass1 (F := Ideal) 0 h0 false) s0).2 = s1 at p1 a1 b1 ⊢
  have p2 := pass2_run h0 b1 p1
  have b2 := b1.pass2 B.cinv 0 h0 false
  rw [← (keeps_pass2 .acc B.cinv 0 h0 false) s1] at a1
  generalize (run (pass2 (F := Ideal) B.cinv 0 h0 false) s1).2 = s2 at p2 b2 a1 ⊢
  obtain ⟨p3, a3⟩ := pass1_run h1 (p := true) b2 a1
  rw [← accTo_two] at a3
  have b3 := b2.pass1 32 h1 true
  have p4 := p2.keep ((keeps_pass1 (.ds false) 32 h1 true) s2) ((keeps_pass1 (.ms false) 32 h1 true) s2)
  generalize (run (pass1 (F := Ideal) 32 h1 true) s2).2 = s3 at p3 a3 b3 p4 ⊢
  exact Ph.start b3 a3 p4 p3

theorem post_run {B : Blk} {A : Nat → Nat → EReal} {s : St Ideal} (h : Ph B A 30 false s) :
    (Is3 (α := EReal) ((run (post (F := Ideal) B.cinv) s).2 .co) fun _ r l => B.Q r l)
    ∧ (Is3 (α := EReal) ((run (post (F := Ideal) B.cinv) s).2 .sc) fun _ _ r => B.S r)
    ∧ (Is2 (α := EReal) ((run (post (F := Ideal) B.cinv) s).2 .gb) fun _ l => B.G l)
    ∧ Is2 (α := EReal) ((run (post (F := Ideal) B.cinv) s).2 .acc) (accTo B A 32) := by
  unfold post
  rw [run_bind, run_bind, run_bind]
  have hp2 : P2 B false 960 s := h.p2
  have hp1 : P1 B true 992 s := h.p1
  have hsb : On2 (α := EReal) (s .sb) (fun r _ => r < 960) fun r _ => B.S r := h.sb
  have hco : On3 (α := EReal) (s .co) (fun _ r _ => r < 960) fun _ r l => B.Q r l := h.co
  have hacc : Is2 (α := EReal) (s .acc) (accTo B A 32) := h.acc
  have hb := h.base
  clear h
  have h0 : RowOK 960 := rowOK 30 (by omega)
  have h1 : RowOK 992 := rowOK 31 (by omega)
  obtain ⟨sb3, co3⟩ := pass3_run h0 hp2 hsb hco
  have b3 := hb.pass3 960 h0 false
  have p13 := hp1.keep ((keeps_pass3 (.xs true) 960 h0 false) s) ((keeps_pass3 (.gs true) 960 h0 false) s) ((keeps_pass3 (.cs true) 960 h0 false) s)
  have a3 : Is2 (α := EReal) ((run (pass3 (F := Ideal) 960 h0 false) s).2 .acc) (accTo B A 32) := by
    rw [(keeps_pass3 .acc 960 h0 false) s]; exact hacc
  generalize (run (pass3 (F := Ideal) 960 h0 false) s).2 = s3 at sb3 co3 b3 p13 a3 ⊢
  have q2 := pass2_run h1 b3 p13
  have b2 := b3.pass2 B.cinv 992 h1 true
  have a2 := (keeps_pass2 .acc B.cinv 992 h1 true) s3
  rw [← (keeps_pass2 .sb B.cinv 992 h1 true) s3] at sb3
  rw [← (keeps_pass2 .co B.cinv 992 h1 true) s3] at co3
  rw [← a2] at a3
  generalize (run (pass2 (F := Ideal) B.cinv 992 h1 true) s3).2 = s2 at q2 b2 sb3 co3 a3 ⊢
  obtain ⟨sb1, co1⟩ := pass3_run h1 q2 sb3 co3
  have b1 := b2.pass3 992 h1 true
  rw [← (keeps_pass3 .acc 992 h1 true) s2] at a3
  generalize (run (pass3 (F := Ideal) 992 h1 true) s2).2 = s1 at sb1 co1 b1 a3 ⊢
  refine ⟨?_, gather_run s1 fun r l => sb1 r l (by omega), ?_, ?_⟩
  · rw [keeps_gather .co nofun s1]; exact fun g r l => co1 g r l (by omega)
  · rw [keeps_gather .gb nofun s1]; exact b1.gb
  · rw [keeps_gather .acc nofun s1]; exact a3

/-- A grid point, from the block's data, `gamma`'s gradient so far and the buffers the first point fills. -/
theorem runBody_run {B : Blk} {A : Nat → Nat → EReal} (w : BitVec 32) {s : St Ideal} (hx : Is3 (α := EReal) (s .x) fun _ r l => B.X r l)
    (hy : Is3 (α := EReal) (s .dy) fun _ r l => B.Y r l) (hg : Is2 (α := EReal) (s .gam) fun _ l => B.G l)
    (hr : Is3 (α := EReal) (s .rs) fun _ _ r => B.R r)
    (h0 : isPoint w 0#32 = 1#1 → A = fun _ _ => 0)
    (h1 : isPoint w 0#32 ≠ 1#1 → (Is2 (α := EReal) (s .gb) fun _ l => B.G l) ∧ Is2 (α := EReal) (s .acc) A) :
    (Is3 (α := EReal) (runBody (F := Ideal) B.cinv w s .co) fun _ r l => B.Q r l)
    ∧ (Is3 (α := EReal) (runBody (F := Ideal) B.cinv w s .sc) fun _ _ r => B.S r)
    ∧ (Is2 (α := EReal) (runBody (F := Ideal) B.cinv w s .gb) fun _ l => B.G l)
    ∧ Is2 (α := EReal) (runBody (F := Ideal) B.cinv w s .acc) (accTo B A 32)
    ∧ (isPoint w 49#32 = 1#1 → Is2 (α := EReal) (runBody (F := Ideal) B.cinv w s .dg) fun _ l => ∑ a : Fin 8, accTo B A 32 a.val l) := by
  unfold runBody
  have hs : ∃ s1 : St Ideal, s1 = (if isPoint w 0#32 = 1#1 then (run initBufs s).2 else s) ∧ (Is3 (α := EReal) (s1 .x) fun _ r l => B.X r l)
      ∧ (Is3 (α := EReal) (s1 .dy) fun _ r l => B.Y r l) ∧ (Is3 (α := EReal) (s1 .rs) fun _ _ r => B.R r)
      ∧ (Is2 (α := EReal) (s1 .gb) fun _ l => B.G l) ∧ Is2 (α := EReal) (s1 .acc) A := by
    refine ⟨_, rfl, ?_⟩
    split_ifs with hw
    · obtain ⟨i1, i2, i3⟩ := init_run s hg
      rw [i3 .x nofun nofun, i3 .dy nofun nofun, i3 .rs nofun nofun, h0 hw]
      exact ⟨hx, hy, hr, i1, i2⟩
    · exact ⟨hx, hy, hr, h1 hw⟩
  obtain ⟨s1, e1, x1, y1, r1, g1, a1⟩ := hs
  rw [← e1]
  have q := post_run (tripsTo_run (pre_run x1 y1 r1 g1 a1) 15 le_rfl)
  generalize (run (post (F := Ideal) B.cinv) (tripsTo (F := Ideal) B.cinv (run (pre (F := Ideal) B.cinv) s1).2 15)).2 = s2 at q ⊢
  obtain ⟨q1, q2, q3, q4⟩ := q
  split_ifs with hw
  · obtain ⟨f1, f2⟩ := finish_run s2 q4
    rw [f2 .co nofun, f2 .sc nofun, f2 .gb nofun, f2 .acc nofun]
    exact ⟨q1, q2, q3, q4, fun _ => f1⟩
  · exact ⟨q1, q2, q3, q4, fun h => absurd h hw⟩

end Rms

end

end
-- ==== Proof.Rms.Dat.lean ====
module

public import proofs.«01_k».proof.Proof.Rms.FrameI
public import proofs.«01_k».proof.Proof.Rms.Point
public import Idealize.ShloMosaic.Lib.Pipeline.TableIdle
public import Idealize.ShloMosaic.Lib.Pipeline.ValueKit

/-! # What the kernel writes, over the extended reals

The contents of the three results, point by point, and the run that ends with them. -/

@[expose] public section

set_option maxRecDepth 16384

noncomputable section

namespace Rms.I

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The blocks -/

/-- Block `b` of the arguments. -/
def argBlk (x y : S50x1024x2560.Idx → EReal) (g : S2560.Idx → EReal) (r : S50x1024.Idx → EReal) (b : Nat) : Blk where
  X := fun i l => x (ix3 ⟨b % 50, Nat.mod_lt _ (by decide)⟩ ⟨i % 1024, Nat.mod_lt _ (by decide)⟩ ⟨l % 2560, Nat.mod_lt _ (by decide)⟩)
  Y := fun i l => y (ix3 ⟨b % 50, Nat.mod_lt _ (by decide)⟩ ⟨i % 1024, Nat.mod_lt _ (by decide)⟩ ⟨l % 2560, Nat.mod_lt _ (by decide)⟩)
  G := fun l => g (ix1 ⟨l % 2560, Nat.mod_lt _ (by decide)⟩)
  R := fun i => r (ix2 ⟨b % 50, Nat.mod_lt _ (by decide)⟩ ⟨i % 1024, Nat.mod_lt _ (by decide)⟩)
  cinv := cinv (F := Ideal)

variable (m : (ℓ : Loc nD τ sig) → Idealize.ShloMosaic.Buf (Elt Ideal) ℓ) (ρ : Dev nD → PrngReg)

/-- Block `b` of the arguments in memory. -/
def B (c : Dev nD) (b : Nat) : Blk :=
  argBlk (m ((c : Thread nD τ).loc main_arg0)) (m ((c : Thread nD τ).loc main_arg1)) (m ((c : Thread nD τ).loc main_arg2))
    (m ((c : Thread nD τ).loc main_arg3)) b

/-- `gamma`'s gradient so far, in eight rows, before point `n`. -/
def accA (c : Dev nD) : Nat → Nat → Nat → EReal
  | 0 => fun _ _ => 0
  | n + 1 => accTo (B m c n) (accA c n) 32

theorem idx : ∀ t : Fin cfg0.N, win0_0.index t = ![t.val, 0, 0] ∧ win0_1.index t = ![t.val, 0, 0] ∧ win0_2.index t = ![0, 0]
    ∧ win0_3.index t = ![t.val, 0, 0] ∧ win0_4.index t = ![0, 0] ∧ win0_5.index t = ![t.val, 0, 0] ∧ win0_6.index t = ![t.val, 0, 0] ∧ t.val < 50 :=
  (by decide +kernel : ∀ t : Fin grid0.N, _)

theorem points : ∀ t : Fin cfg0.N, (isPoint (point t) 0#32 = 1#1 ↔ t.val = 0) ∧ (isPoint (point t) 49#32 = 1#1 ↔ t.val = 49)
    ∧ (idle0 4 (grid0.coords t) = true ↔ t.val ≠ 49) :=
  (by decide +kernel : ∀ t : Fin grid0.N, _)

theorem x_is (c : Dev nD) (t : Fin cfg0.N) : Is3 (α := EReal) (A := 1) (B := 1024) (C := 2560) (iblk m c 0 t) fun _ r l => (B m c t.val).X r l := by
  intro i j k
  show _ = m ((c : Thread nD τ).loc main_arg0) _
  blk_ext [iblk, V, idx t]

theorem dy_is (c : Dev nD) (t : Fin cfg0.N) : Is3 (α := EReal) (A := 1) (B := 1024) (C := 2560) (iblk m c 1 t) fun _ r l => (B m c t.val).Y r l := by
  intro i j k
  show _ = m ((c : Thread nD τ).loc main_arg1) _
  blk_ext [iblk, V, idx t]

theorem gam_is (c : Dev nD) (t : Fin cfg0.N) : Is2 (α := EReal) (A := 1) (B := 2560) (iblk m c 2 t) fun _ l => (B m c t.val).G l := by
  intro i j
  show _ = m ((c : Thread nD τ).loc main_arg2) _
  blk_simp [iblk, idx t]
  entry_read
  pointwise
  blk_ext [idx t]

theorem rs_is (c : Dev nD) (t : Fin cfg0.N) : Is3 (α := EReal) (A := 1) (B := 1) (C := 1024) (iblk m c 3 t) fun _ _ r => (B m c t.val).R r := by
  intro i j k
  show _ = m ((c : Thread nD τ).loc main_arg3) _
  blk_simp [iblk, idx t]
  entry_read
  pointwise
  blk_ext [idx t]

/-! ## The invariant between the points -/

/-- A scratch buffer at some contents. -/
abbrev any (c : Dev nD) (b : Ref sig .tc) : sProp 𝕄 :=
  iprop(∃ f : Idealize.ShloMosaic.Buf (Elt Ideal) ((c : Thread nD τ).loc b), ((c : Thread nD τ).loc b) ↦{fullShare} f)

/-- Before point `n`, the two buffers that live on from point to point are filled. -/
def Filled (c : Dev nD) (n : Nat) (f0 f1 : S8x2560.Idx → EReal) : Prop :=
  n ≠ 0 → Is2 f0 (fun _ l => (B m c (n - 1)).G l) ∧ Is2 f1 (accA m c n)

/-- The scratch buffers before point `n`. -/
def Phi (c : Dev nD) (n : Nat) : sProp 𝕄 :=
  iprop((∃ (f0 : Idealize.ShloMosaic.Buf (Elt Ideal) ((c : Thread nD τ).loc cc0_scratch0)) (f1 : Idealize.ShloMosaic.Buf (Elt Ideal) ((c : Thread nD τ).loc cc0_scratch1)),
      ⌜Filled m c n f0 f1⌝ ∗ (((c : Thread nD τ).loc cc0_scratch0) ↦{fullShare} f0) ∗ (((c : Thread nD τ).loc cc0_scratch1) ↦{fullShare} f1))
    ∗ (any c cc0_scratch2 ∗ any c cc0_scratch3 ∗ any c cc0_scratch4 ∗ any c cc0_scratch5 ∗ any c cc0_scratch6 ∗ any c cc0_scratch7 ∗ any c cc0_scratch8 ∗ any c cc0_scratch9 ∗ any c cc0_scratch10 ∗ any c cc0_scratch11 ∗ any c cc0_scratch12 ∗ any c cc0_scratch13) ∗ ∃ r, prngReg c r)

theorem Phi_first (c : Dev nD) : Pipeline.ΦA spec0 c ⊢ Phi m c 0 := by
  unfold Phi Pipeline.ΦA
  rw [scopedRest0_eq]
  iintro ⟨⟨⟨%f0, H0⟩, ⟨%f1, H1⟩, H⟩, Hp⟩
  isplitl [H0 H1]
  · iexists f0, f1
    isplitr
    · ipureintro; exact fun h => absurd rfl h
    isplitl [H0]
    · iexact H0
    iexact H1
  isplitl [H]
  · iexact H
  iexact Hp

theorem Phi_last (c : Dev nD) (n : Nat) : Phi m c n ⊢ Pipeline.ΦA spec0 c := by
  unfold Phi Pipeline.ΦA
  rw [scopedRest0_eq]
  iintro ⟨⟨%f0, %f1, %hf, H0, H1⟩, H, Hp⟩
  isplitr [Hp]
  · isplitl [H0]
    · iexists f0; iexact H0
    isplitl [H1]
    · iexists f1; iexact H1
    iexact H
  iexact Hp

/-! ## The results, point by point -/

/-- The proof data: the inputs' blocks stay in place; the outputs are the block's codes and scales, and at the end `gamma`'s gradient. -/
def vdats (_ : Fin 1) (c : Dev nD) : Dat τ (Elt Ideal) Unit ℕ (UR sig nD τ) ℕ cfg0 c where
  A := fun w => V m c (Pipeline.arrRef spec0 w)
  after := fun w t => match w with
    | 0 => iblk m c 0 t | 1 => iblk m c 1 t | 2 => iblk m c 2 t | 3 => iblk m c 3 t
    | 4 => fun j : S1x2560.Idx => (∑ a : Fin 8, accA m c 50 a.val (j 1).val : EReal)
    | 5 => fun j : S1x1024x2560.Idx => (B m c t.val).Q (j 1).val (j 2).val
    | 6 => fun j : S1x1x1024.Idx => (B m c t.val).S (j 2).val
    | ⟨_ + 7, h⟩ => absurd h (Nat.not_lt.2 (Nat.le_add_left _ _))
  Φ := fun t => Phi m c t.val
  q := fun _ => fullShare
  owed := fun _ => 0

theorem after4 (c : Dev nD) (t : Fin cfg0.N) : (vdats m 0 c).after 4 t = fun j : S1x2560.Idx => (∑ a : Fin 8, accA m c 50 a.val (j 1).val : EReal) := rfl
theorem after5 (c : Dev nD) (t : Fin cfg0.N) : (vdats m 0 c).after 5 t = fun j : S1x1024x2560.Idx => (B m c t.val).Q (j 1).val (j 2).val := rfl
theorem after6 (c : Dev nD) (t : Fin cfg0.N) : (vdats m 0 c).after 6 t = fun j : S1x1x1024.Idx => (B m c t.val).S (j 2).val := rfl

theorem fetch4 : ∀ t : Fin cfg0.N, (cfg0.win 4).fetch t = false := fun t => rfl

/-- Until the last point the buffer of `gamma`'s gradient is as it was found. -/
theorem before4 (c : Dev nD) (t : Fin cfg0.N) (d) : (vdats m 0 c).before 4 t d = d := by
  have ht := (idx t).2.2.2.2.2.2.2
  rw [(vdats m 0 c).before_idle_run 4 fetch4 d t.val t le_rfl fun j h1 h2 => by
    refine ⟨(points j).2.2.mpr (by omega), ?_⟩
    rw [← Bool.not_eq_true, flush0_4 j]
    omega]
  unfold Dat.before
  rw [if_neg (by rw [fetch4]; exact Bool.false_ne_true), if_pos (by simp)]

theorem eq_of_is2 {A B : Nat} {v : (⟨2, ![A, B]⟩ : Shape).Idx → EReal} {W : Nat → Nat → EReal} (h : Is2 v W) :
    v = fun j => W (j 0).val (j 1).val := by
  funext j
  refine Eq.trans (congrArg v ?_) (h (j 0) (j 1))
  funext a; fin_cases a <;> rfl

theorem eq_of_is3 {A B C : Nat} {v : (⟨3, ![A, B, C]⟩ : Shape).Idx → EReal} {W : Nat → Nat → Nat → EReal} (h : Is3 v W) :
    v = fun j => W (j 0).val (j 1).val (j 2).val := by
  funext j
  refine Eq.trans (congrArg v ?_) (h (j 0) (j 1) (j 2))
  funext a; fin_cases a <;> rfl

/-- What the body is given at a point. -/
def vpre (c : Dev nD) (t : Fin cfg0.N) : sProp 𝕄 :=
  iprop(Phi m c t.val ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d)))

/-- What the body gives back. -/
def vpost (c : Dev nD) (t : Fin cfg0.N) : sProp 𝕄 :=
  iprop(Phi m c (t.val + 1) ∗ (vdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (vdats m 0 c).leaves 4 t
    ∗ owns (c : Thread nD τ) (st0_5 t) fullShare ((vdats m 0 c).after 5 t)
    ∗ owns (c : Thread nD τ) (st0_6 t) fullShare ((vdats m 0 c).after 6 t))

/-- The buffer of `gamma`'s gradient after a point. -/
theorem leaves4 (c : Dev nD) (t : Fin cfg0.N) (X : S1x2560.Idx → EReal) (h : t.val = 49 → X = (vdats m 0 c).after 4 t) :
    owns (c : Thread nD τ) (st0_4 t) fullShare X ⊢ ((vdats m 0 c).leaves 4 t : sProp 𝕄) := by
  by_cases ht : t.val = 49
  · have hi : cfg0.idle 4 (cfg0.grid.coords t) = false := by
      rw [← Bool.not_eq_true]
      exact fun h => (points t).2.2.mp h ht
    unfold Dat.leaves
    rw [hi, h ht]
  · have hf : (cfg0.win 4).flush t = false := by
      rw [← Bool.not_eq_true, flush0_4 t]
      have := (idx t).2.2.2.2.2.2.2
      omega
    rw [(vdats m 0 c).leaves_idle 4 t ((points t).2.2.mpr ht) hf]
    iintro H
    iexists X
    rw [before4]
    iexact H

theorem vbody (c : Dev nD) (t : Fin cfg0.N) :
    vpre m c t ⊢ wp frame (wpE (defs₀ (F := Ideal)) Variants.none c none) Set.univ (bodyAt0 t) (fun _ => vpost m c t) := by
  rw [bodyAt_eq]
  unfold vpre vpost Phi
  iintro ⟨⟨⟨%f0, %f1, %hf, H0, H1⟩, ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, %f13, H13⟩, Hp⟩,
    HW, ⟨%d0, W0⟩, ⟨%d1, W1⟩, ⟨%d2, W2⟩, ⟨%d3, W3⟩, ⟨%X4, W4⟩, ⟨%d5, W5⟩, %d6, W6⟩
  rw [before0_0_of m (vdats m 0 c) rfl (fun _ => rfl), before0_1_of m (vdats m 0 c) rfl (fun _ => rfl),
    before0_2_of m (vdats m 0 c) rfl (fun _ => rfl), before0_3_of m (vdats m 0 c) rfl (fun _ => rfl)]
  generalize (vdats m 0 c).before 4 t X4 = X4
  generalize (vdats m 0 c).before 5 t d5 = X5
  generalize (vdats m 0 c).before 6 t d6 = X6
  obtain ⟨s, es⟩ : ∃ s : St Ideal, s = mkSt (F := Ideal) (iblk m c 0 t) (iblk m c 1 t) (iblk m c 2 t) (iblk m c 3 t) X4 X5 X6 f0 f1 f2 f3 f4 f5 f6 f7 f8 f9 f10 f11 f12 f13 := ⟨_, rfl⟩
  have hin := fun b hb => runBody_isIn (cinv (F := Ideal)) (point t) b hb s
  have hrun := runBody_run (B := B m c t.val) (A := accA m c t.val) (point t) (s := s)
    (by rw [es]; exact x_is m c t) (by rw [es]; exact dy_is m c t) (by rw [es]; exact gam_is m c t) (by rw [es]; exact rs_is m c t)
    (fun h => by rw [(points t).1.mp h]; rfl)
    (fun h => by
      have h0 : t.val ≠ 0 := fun e => h ((points t).1.mpr e)
      rw [es]
      exact hf h0)
  iapply (wp_body Variants.none c none Set.univ (refs t) (refs_whole t) cinv (point t) s)
  isplitr [HW Hp]
  · rw [es, Inv_eq]
    simp only [refs, owns_whole, mkSt]
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13
  rw [Inv_eq, hin .x rfl, hin .dy rfl, hin .gam rfl, hin .rs rfl]
  have hfill : Filled m c (t.val + 1) (runBody (F := Ideal) cinv (point t) s .gb) (runBody (F := Ideal) cinv (point t) s .acc) :=
    fun _ => ⟨hrun.2.2.1, hrun.2.2.2.1⟩
  have h4 : t.val = 49 → runBody (F := Ideal) cinv (point t) s .dg = (vdats m 0 c).after 4 t := fun h => by
    have h50 := hrun.2.2.2.2 ((points t).2.1.mpr h)
    rw [after4, show (50 : Nat) = t.val + 1 by omega]
    exact eq_of_is2 h50
  have h5 : runBody (F := Ideal) cinv (point t) s .co = (vdats m 0 c).after 5 t := eq_of_is3 hrun.1
  have h6 : runBody (F := Ideal) cinv (point t) s .sc = (vdats m 0 c).after 6 t := eq_of_is3 hrun.2.1
  clear hrun hin
  have e0 : s .x = iblk m c 0 t := by rw [es]; rfl
  have e1 : s .dy = iblk m c 1 t := by rw [es]; rfl
  have e2 : s .gam = iblk m c 2 t := by rw [es]; rfl
  have e3 : s .rs = iblk m c 3 t := by rw [es]; rfl
  rw [e0, e1, e2, e3]
  clear e0 e1 e2 e3 es hf
  generalize runBody (F := Ideal) cinv (point t) s = s' at hfill h4 h5 h6 ⊢
  simp only [refs, owns_whole]
  iintro ⟨W0, W1, W2, W3, W4, W5, W6, H0, H1, H2, H3, H4, H5, H6, H7, H8, H9, H10, H11, H12, H13⟩
  isplitr [HW W0 W1 W2 W3 W4 W5 W6]
  · isplitl [H0 H1]
    · iexists (s' .gb), (s' .acc)
      isplitr
      · ipureintro; exact hfill
      isplitl [H0]
      · iexact H0
      iexact H1
    isplitr [Hp]
    · isplitl [H2]
      · iexists _; iexact H2
      isplitl [H3]
      · iexists _; iexact H3
      isplitl [H4]
      · iexists _; iexact H4
      isplitl [H5]
      · iexists _; iexact H5
      isplitl [H6]
      · iexists _; iexact H6
      isplitl [H7]
      · iexists _; iexact H7
      isplitl [H8]
      · iexists _; iexact H8
      isplitl [H9]
      · iexists _; iexact H9
      isplitl [H10]
      · iexists _; iexact H10
      isplitl [H11]
      · iexists _; iexact H11
      isplitl [H12]
      · iexists _; iexact H12
      iexists _; iexact H13
    iexact Hp
  isplitl [HW]
  · iexact HW
  isplitl [W0]
  · iexact W0
  isplitl [W1]
  · iexact W1
  isplitl [W2]
  · iexact W2
  isplitl [W3]
  · iexact W3
  isplitl [W4]
  · iapply (leaves4 m c t (s' .dg) h4); iexact W4
  isplitl [W5]
  · rw [← h5]; iexact W5
  rw [← h6]; iexact W6

/-- The body obligation of every point. -/
theorem vobligation (c : Dev nD) :
    BodyObligationLoose (vdats m 0 c) (defs₀ (F := Ideal)) Variants.none () Set.univ := fun t => by
  rw [bigSep_W0, bigSep_W0]
  show vpre m c t ⊢ wp frame (wpE (defs₀ (F := Ideal)) Variants.none c none) Set.univ (bodyAt0 t) (fun _ => vpost m c t)
  exact vbody m c t

end Rms.I

end

end
-- ==== Proof.Rms.RunI.lean ====
module

public import proofs.«01_k».proof.Proof.Rms.Dat

/-! # The kernel's results after a run, over the extended reals -/

@[expose] public section

set_option maxRecDepth 16384

noncomputable section

namespace Rms.I

open Cert.KernelIdeal Cert.KernelIdeal.Gen
open Idealize.ShloMosaic Idealize.ShloMosaic.TcCoe Idealize.ShloMosaic.Tactic Idealize.ShloMosaic.Pointwise
open Idealize.SL.Sem
open Idealize.ShloMosaic.Pipeline (Dat)

variable (m : (ℓ : Loc nD τ sig) → Idealize.ShloMosaic.Buf (Elt Ideal) ℓ) (ρ : Dev nD → PrngReg)

/-- `gamma`'s gradient. -/
def dgamma (c : Dev nD) : S1x2560.Idx → EReal := fun j => ∑ a : Fin 8, accA m c 50 a.val (j 1).val
/-- The codes. -/
def codes (c : Dev nD) : S50x1024x2560.Idx → EReal := fun j => (B m c (j 0).val).Q (j 1).val (j 2).val
/-- The scales. -/
def scales (c : Dev nD) : S50x1x1024.Idx → EReal := fun j => (B m c (j 0).val).S (j 2).val

theorem final4 (c : Dev nD) : (vdats m 0 c).arrAt 4 cfg0.N = dgamma m c := by
  refine (vdats m 0 c).arrAt_eq_of_covers 4 _ (by decide +kernel) fun t _ y => ?_
  blk_simp
  rw [after4]
  unfold dgamma
  blk_simp [idx t]

theorem final5 (c : Dev nD) : (vdats m 0 c).arrAt 5 cfg0.N = codes m c := by
  refine (vdats m 0 c).arrAt_eq_of_covers 5 _ (by decide +kernel) fun t _ y => ?_
  blk_simp
  rw [after5]
  unfold codes
  blk_simp [idx t]

theorem final6 (c : Dev nD) : (vdats m 0 c).arrAt 6 cfg0.N = scales m c := by
  refine (vdats m 0 c).arrAt_eq_of_covers 6 _ (by decide +kernel) fun t _ y => ?_
  have hf := after6 m c t
  revert hf
  generalize (vdats m 0 c).after 6 t = f
  intro hf
  refine (cast_eq _ _).trans ?_
  have hi := (idx t).2.2.2.2.2.2.1
  have h0 : (((cfg0.win 6).blk t).view.emb y 0).val = t.val := by
    refine (win0_6.rect_emb_val t y 0).trans ?_
    have h : (y 0).val < 1 := (y 0).isLt
    rw [hi]
    show t.val * 1 + (y 0).val = t.val
    omega
  have h2 : (((cfg0.win 6).blk t).view.emb y 2).val = (y 2).val := win0_6.rect_emb_val_of_index_zero t 2 (by rw [hi]; rfl) y
  have h3 : ((cfg0.win 6).xinj (cfg0.grid.coords t) y 2).val = (y 2).val := rfl
  rw [hf]
  unfold scales
  rw [h0, h2]

/-- Every run ends with the three results in their arrays and the arguments as they were. -/
theorem run : θ_run defs (onTc (τ := τ) (main (F := Ideal))) ⟨m, fun _ => 0, ρ⟩ (fun r => ∀ c : Dev nD,
      r.2.mem ((c.tc : Thread nD τ).loc main_v2_0) = dgamma m c
      ∧ r.2.mem ((c.tc : Thread nD τ).loc main_v2_1) = codes m c
      ∧ r.2.mem ((c.tc : Thread nD τ).loc main_v2_2) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_track cfgs (vdats m) 0 launch0 defs₀ Variants.none m ρ main (vobligation m)
    (fun c w => by fin_cases w <;> rfl) (fun _ _ => rfl) (V m) (hmain m _) (fun _ _ => rfl) (Phi_first m) (fun c => Phi_last m c _) _
    fun r h c =>
      ⟨((h.1 c).1 4).trans (final4 m c), ((h.1 c).1 5).trans (final5 m c), ((h.1 c).1 6).trans (final6 m c),
        ((h.1 c).1 0).trans (((vdats m 0 c).arrAt_in 0 rfl _).trans (V_main_arg0 m c)),
        ((h.1 c).1 1).trans (((vdats m 0 c).arrAt_in 1 rfl _).trans (V_main_arg1 m c)),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c)⟩

end Rms.I

end

end
-- ==== Proof.Rms.RefV.lean ====
module

public import proofs.«01_k».proof.Proof.Gen.ReferenceIdeal.Value
public import proofs.«01_k».proof.Proof.Rms.Spec
public import proofs.«01_k».proof.Proof.Rms.RunI
public import Idealize.ShloMosaic.Lib.KernelVsHost
public import Idealize.ShloMosaic.Lib.Claim
public import Idealize.ShloMosaic.Lib.Pointwise

/-! # What the reference's host operations compute

The list of operations is cut at the gradient `dx`, at the scaled maximum `z` and at the exponent `e`; each stretch is read over
any contents before it. -/

@[expose] public section

set_option maxRecDepth 16384

noncomputable section

namespace Rms.R

open Cert.ReferenceIdeal Cert.ReferenceIdeal.Gen
open Idealize.ShloMosaic Idealize.ShloMosaic.TcCoe Idealize.ShloMosaic.Pointwise Idealize.SL.Sem

/-- The operations up to `dx`, from there to `z`, from there to `e`, and the rest. -/
def opsDx : List (HloOp τ sig (Elt Ideal)) := (hostOps0 (F := Ideal)).take 22
def opsZ : List (HloOp τ sig (Elt Ideal)) := ((hostOps0 (F := Ideal)).drop 22).take 11
def opsE : List (HloOp τ sig (Elt Ideal)) := (hostOps0 (F := Ideal)).drop 33 ++ (hostOps0_1 ++ (hostOps0_2 ++ hostOps0_3))
def opsQ : List (HloOp τ sig (Elt Ideal)) := hostOps0_4 ++ (hostOps0_5 ++ hostOps0_6)

theorem after_append (l k : List (HloOp τ sig (Elt Ideal))) (W) : StableHlo.after (l ++ k) W = StableHlo.after k (StableHlo.after l W) := by
  induction l generalizing W with
  | nil => rfl
  | cons op l ih => exact ih _

theorem ops_eq {α : Type} (h a b c d e f : List α) :
    List.flatten [h, a, b, c, d, e, f] = h.take 22 ++ ((h.drop 22).take 11 ++ ((h.drop 33 ++ (a ++ (b ++ c))) ++ (d ++ (e ++ f)))) := by
  have h1 : (h.drop 22).take 11 ++ h.drop 33 = h.drop 22 := by
    rw [show h.drop 33 = (h.drop 22).drop 11 by rw [List.drop_drop]]
    exact List.take_append_drop 11 (h.drop 22)
  have h2 := List.take_append_drop 22 h
  simp only [List.flatten_cons, List.flatten_nil, List.append_nil]
  rw [← List.append_assoc (List.take 11 _), ← List.append_assoc (List.take 11 _), h1, List.append_assoc, ← List.append_assoc (List.take 22 h), h2]
  simp only [List.append_assoc]

variable (m : (ℓ : Loc nD τ sig) → Idealize.ShloMosaic.Buf (Elt Ideal) ℓ) (c : Dev nD)

theorem V_eq (b : Ref sig .tc) :
    V m c b = StableHlo.after opsQ (StableHlo.after opsE (StableHlo.after opsZ (StableHlo.after opsDx fun b => m (c, b)))) (Proc.tc.devRef b) := by
  have h := ops_eq (hostOps0 (F := Ideal)) hostOps0_1 hostOps0_2 hostOps0_3 hostOps0_4 hostOps0_5 hostOps0_6
  unfold V
  rw [h, after_append, after_append, after_append]
  rfl

variable (W : Valuation τ sig (Elt Ideal))

/-- Block `b` of the contents `W` of the arguments. -/
def argB (b : Nat) : Blk :=
  Rms.I.argBlk (W (Proc.tc.devRef main_arg0)) (W (Proc.tc.devRef main_arg1)) (W (Proc.tc.devRef main_arg2)) (W (Proc.tc.devRef main_arg3)) b

theorem X_at (b : Fin 50) (i : Fin 1024) (l : Fin 2560) : W (Proc.tc.devRef main_arg0) (ix3 b i l) = (argB W b).X i l := by
  show _ = W (Proc.tc.devRef main_arg0) _
  congr 1
  ext a
  fin_cases a
  · exact (Nat.mod_eq_of_lt b.isLt).symm
  · exact (Nat.mod_eq_of_lt i.isLt).symm
  · exact (Nat.mod_eq_of_lt l.isLt).symm

theorem Y_at (b : Fin 50) (i : Fin 1024) (l : Fin 2560) : W (Proc.tc.devRef main_arg1) (ix3 b i l) = (argB W b).Y i l := by
  show _ = W (Proc.tc.devRef main_arg1) _
  congr 1
  ext a
  fin_cases a
  · exact (Nat.mod_eq_of_lt b.isLt).symm
  · exact (Nat.mod_eq_of_lt i.isLt).symm
  · exact (Nat.mod_eq_of_lt l.isLt).symm

theorem G_at (b : Nat) (l : Fin 2560) : W (Proc.tc.devRef main_arg2) (ix1 l) = (argB W b).G l := by
  show _ = W (Proc.tc.devRef main_arg2) _
  congr 1
  ext a
  fin_cases a
  exact (Nat.mod_eq_of_lt l.isLt).symm

theorem R_at (b : Fin 50) (i : Fin 1024) : W (Proc.tc.devRef main_arg3) (ix2 b i) = (argB W b).R i := by
  show _ = W (Proc.tc.devRef main_arg3) _
  congr 1
  ext a
  fin_cases a
  · exact (Nat.mod_eq_of_lt b.isLt).symm
  · exact (Nat.mod_eq_of_lt i.isLt).symm

/-- The gradient, the quotient and the exponent of row `p` in the contents `W`. -/
def wD (p : Fin 51200) (l : Fin 2560) : EReal := W (Proc.tc.devRef main_v19) (ix2 p l)
def wZ (p : Fin 51200) : EReal := W (Proc.tc.devRef main_v27) (ix2 p (0 : Fin 1))
def wE (p : Fin 51200) : EReal := W (Proc.tc.devRef main_v47) (ix2 p (0 : Fin 1))

theorem dx_term (p : Fin 51200) (l : Fin 2560) :
    wD (StableHlo.after opsDx W) p l = (argB W (p.val / 1024)).dx (p.val % 1024) l := by
  unfold wD
  simp only [opsDx, hostOps0, List.take_succ_cons, List.take_zero]
  after_results
  pointwise
  simp only [X_at W, Y_at W, R_at W, G_at W (p.val / 1024)]
  rfl

theorem max_row (w : FVec Ideal S51200x2560 .f32) (h : S51200x2560.Reduces [1] S51200) (p : Fin 51200) :
    multiReduction .maximumf [1] S51200 w 0xFF800000#32 h (by decide) rfl (ix1 p)
      = (Finset.univ.fold max ⊥ fun k : Fin 2560 => w (ix2 p k) : EReal) := by
  simp only [pointwise]
  rw [show Ideal.ofBits FTy.f32 4286578688#32 = (⊥ : EReal) from rfl]

theorem scaled (r : FVec Ideal S51200 .f32) (p : Fin 51200) :
    mulf (broadcastInDim S51200x1 ![0] bcast_S51200_S51200x1_0 r)
      (broadcastInDim S51200x1 ![] bcast_S_S51200x1 (constant S_ .f32 0x37924925#32)) (ix2 p (0 : Fin 1))
    = (r (ix1 p) * Ideal.ofBits .f32 0x37924925#32 : EReal) := by
  pointwise

/-- The largest magnitude of a row, scaled. -/
theorem max_rows (v : FVec Ideal S51200x2560 .f32) (p : Fin 51200) :
    mulf (broadcastInDim S51200x1 ![0] bcast_S51200_S51200x1_0
        (Host.reduce FloatOps.maximumf (Host.absf v) (constant S_ .f32 0xFF800000#32) reducesTo_S51200x2560_S51200_d1 h_S_))
      (broadcastInDim S51200x1 ![] bcast_S_S51200x1 (constant S_ .f32 0x37924925#32)) (ix2 p (0 : Fin 1))
    = (Finset.univ.fold max ⊥ fun k : Fin 2560 => max (v (ix2 p k)) (-v (ix2 p k)) : EReal) * Ideal.ofBits .f32 0x37924925#32 := by
  rw [scaled, hostReduce_maximumf_eq_multiReduction (Host.absf v) 0xFF800000#32 _ _ (by decide) (by decide) rfl]
  exact congrArg (fun y : EReal => y * Ideal.ofBits .f32 0x37924925#32) (max_row (Host.absf v) _ p)

theorem z_term (p : Fin 51200) : wZ (StableHlo.after opsZ W) p
    = (Finset.univ.fold max ⊥ fun k : Fin 2560 => max (wD W p k) (-wD W p k)) * Ideal.ofBits .f32 0x37924925#32 := by
  unfold wZ
  simp only [opsZ, hostOps0, List.take_succ_cons, List.take_zero, List.drop_succ_cons, List.drop_zero]
  after_results
  exact max_rows _ p

theorem z_keeps : StableHlo.after opsZ W (Proc.tc.devRef main_v19) = W (Proc.tc.devRef main_v19) := by
  simp only [opsZ, hostOps0, List.take_succ_cons, List.take_zero, List.drop_succ_cons, List.drop_zero]
  after_results

theorem e_keeps : StableHlo.after opsE W (Proc.tc.devRef main_v19) = W (Proc.tc.devRef main_v19) := by
  simp only [opsE, hostOps0, hostOps0_1, hostOps0_2, hostOps0_3, List.drop_succ_cons, List.drop_zero, List.cons_append, List.nil_append]
  after_results

theorem bits126 : Ideal.ofBits .f32 0x42FC0000#32 = ((126 : ℝ) : EReal) := by
  norm_num [Ideal.ofBits, Ideal.ieee, Nat.shiftRight_eq_div_pow, show ¬ BitVec.extractLsb' 31 1 1123811328#32 = 1#1 by decide]

theorem index_float (x : Fin 252) : (FloatOps.sitofp .f32 (BitVec.ofNat 32 x.val) : Ideal .f32) = ((x.val : ℝ) : EReal) := by
  show (((BitVec.ofNat 32 x.val).toInt : ℝ) : EReal) = _
  have h : (BitVec.ofNat 32 x.val).toInt = x.val := by
    have := x.isLt
    rw [BitVec.toInt_eq_toNat_of_lt (by rw [BitVec.toNat_ofNat]; omega), BitVec.toNat_ofNat]
    omega
  rw [h]
  rfl

theorem power (x : Fin 252) :
    Ideal.pow (Ideal.ofBits .f32 0x40000000#32) ((FloatOps.sitofp .f32 (BitVec.ofNat 32 x.val) : Ideal .f32) - Ideal.ofBits .f32 0x42FC0000#32)
      = (((2 : ℝ) ^ ((x.val : ℤ) - 126) : ℝ) : EReal) := by
  rw [index_float, bits126, ← Blk.pow_two, Int.cast_sub, EReal.coe_sub]
  rfl

theorem refE_select (z : EReal) :
    Scalar.select (IntOp.ori (BitVec.ofBool (decide (z < Ideal.ofBits .f32 0x00800000#32))) (BitVec.ofBool (decide (Ideal.ofBits .f32 0x7E800000#32 ≤ z))))
      (0 : EReal) ((∑ x : Fin 252, if (((2 : ℝ) ^ ((x.val : ℤ) - 126) : ℝ) : EReal) ≤ z then (1 : EReal) else 0) - Ideal.ofBits .f32 0x42FC0000#32)
      = refE z := by
  rw [bits126]
  unfold refE
  have h126 : ((126 : ℝ) : EReal) = 126 := rfl
  rw [h126]
  generalize (∑ x : Fin 252, if (((2 : ℝ) ^ ((x.val : ℤ) - 126) : ℝ) : EReal) ≤ z then (1 : EReal) else 0) - 126 = y
  by_cases h1 : z < Ideal.ofBits .f32 0x00800000#32 <;> by_cases h2 : Ideal.ofBits .f32 0x7E800000#32 ≤ z <;>
    simp [h1, h2, Scalar.select, IntOp.ori]

theorem e_term (p : Fin 51200) :
    wE (StableHlo.after opsE W) p = refE (wZ W p) := by
  unfold wE wZ
  simp only [opsE, hostOps0, hostOps0_1, hostOps0_2, hostOps0_3, List.drop_succ_cons, List.drop_zero, List.cons_append, List.nil_append]
  after_results
  simp -implicitDefEqProofs only [StableHlo.TRef.toBuf, StableHlo.TRef.ofBuf, cast_cast, cast_eq, id_eq]
  pointwise
  simp only [power]
  exact refE_select (wZ W p)

theorem s_term (b : Fin 50) (i : Fin 1024) : StableHlo.after opsQ W (Proc.tc.devRef main_v50) (ix3 b (0 : Fin 1) i)
    = Ideal.pow (Ideal.ofBits .f32 0x40000000#32) (wE W ⟨b.val * 1024 + i.val, by omega⟩) := by
  unfold wE
  simp only [opsQ, hostOps0_4, hostOps0_5, hostOps0_6, List.cons_append, List.nil_append]
  after_results
  pointwise

theorem q_term (b : Fin 50) (i : Fin 1024) (l : Fin 2560) : StableHlo.after opsQ W (Proc.tc.devRef main_v57) (ix3 b i l)
    = min (Ideal.ofBits .f32 0x47600000#32) (max (Ideal.ofBits .f32 0xC7600000#32)
        (wD W ⟨b.val * 1024 + i.val, by omega⟩ l
          * Ideal.pow (Ideal.ofBits .f32 0x40000000#32) (-wE W ⟨b.val * 1024 + i.val, by omega⟩))) := by
  unfold wD wE
  simp only [opsQ, hostOps0_4, hostOps0_5, hostOps0_6, List.cons_append, List.nil_append]
  after_results
  simp -implicitDefEqProofs only [StableHlo.TRef.toBuf, StableHlo.TRef.ofBuf, cast_cast, cast_eq, id_eq]
  pointwise

/-- The reference's sum over all rows for `gamma`'s gradient. -/
def gSum (l : Fin 2560) : EReal :=
  ∑ p : Fin 51200, (argB W (p.val / 1024)).Y (p.val % 1024) l * (argB W (p.val / 1024)).xh (p.val % 1024) l

theorem g_sum (l : Fin 2560) :
    StableHlo.after (List.flatten [hostOps0 (F := Ideal), hostOps0_1, hostOps0_2, hostOps0_3, hostOps0_4, hostOps0_5, hostOps0_6]) W
      (Proc.tc.devRef main_v22) (ix2 (0 : Fin 1) l) = gSum W l := by
  simp only [hostOps0, hostOps0_1, hostOps0_2, hostOps0_3, hostOps0_4, hostOps0_5, hostOps0_6, List.flatten_cons, List.flatten_nil,
    List.append_nil, List.cons_append, List.nil_append]
  after_results
  pointwise
  simp only [X_at W, Y_at W, R_at W]
  rfl

end Rms.R

end

end
-- ==== Proof.Rms.Algebra.lean ====
module

public import proofs.«01_k».proof.Proof.Rms.RefV
public import proofs.«01_k».proof.Defs
public import proofs.«01_k».proof.Proof.Gen.Pre_rstd_nonneg_finite
public import Idealize.ShloMosaic.Lib.Pipeline.ValueKit
public import Idealize.ShloMosaic.Lib.ReduceAll

/-! # The reference's results are the kernel's -/

@[expose] public section

set_option maxRecDepth 16384

noncomputable section

namespace Rms.R

open Cert.ReferenceIdeal Cert.ReferenceIdeal.Gen
open Idealize.ShloMosaic Idealize.ShloMosaic.TcCoe Idealize.ShloMosaic.Pointwise Idealize.SL.Sem

/-! ## The reference's rows over contents whose row factors are non-negative and finite -/

section Rows

variable (W : Valuation τ sig (Elt Ideal))

/-- Every row factor of the contents is non-negative and finite. -/
def Good : Prop := ∀ b i : Nat, 0 ≤ (argB W b).R i ∧ (argB W b).R i ≠ ⊤

theorem cinv_eq (b : Nat) : (argB W b).cinv = ((1 / 2560 : ℝ) : EReal) := rfl

variable {W} (hW : Good W)

include hW in
theorem d_at (p : Fin 51200) (l : Fin 2560) :
    wD (StableHlo.after opsDx W) p l = (argB W (p.val / 1024)).D (p.val % 1024) l :=
  (dx_term W p l).trans (Blk.dx_eq _ (cinv_eq W _) _ _ (hW _ _).1 (hW _ _).2)

include hW in
theorem z_at (p : Fin 51200) :
    wZ (StableHlo.after opsZ (StableHlo.after opsDx W)) p = (argB W (p.val / 1024)).Z (p.val % 1024) := by
  rw [z_term]
  simp only [d_at hW]
  unfold Blk.Z
  rw [← Blk.max_eq]

include hW in
theorem e_at (p : Fin 51200) :
    wE (StableHlo.after opsE (StableHlo.after opsZ (StableHlo.after opsDx W))) p = refE ((argB W (p.val / 1024)).Z (p.val % 1024)) := by
  rw [e_term, z_at hW]

include hW in
theorem d_late (p : Fin 51200) (l : Fin 2560) :
    wD (StableHlo.after opsE (StableHlo.after opsZ (StableHlo.after opsDx W))) p l = (argB W (p.val / 1024)).D (p.val % 1024) l := by
  rw [← d_at hW]
  unfold wD
  rw [e_keeps, z_keeps]

theorem row_div (b : Fin 50) (i : Fin 1024) : (b.val * 1024 + i.val) / 1024 = b.val := by
  have := i.isLt
  omega

theorem row_mod (b : Fin 50) (i : Fin 1024) : (b.val * 1024 + i.val) % 1024 = i.val := by
  have := i.isLt
  omega

include hW in
theorem s_at (b : Fin 50) (i : Fin 1024) :
    StableHlo.after opsQ (StableHlo.after opsE (StableHlo.after opsZ (StableHlo.after opsDx W))) (Proc.tc.devRef main_v50) (ix3 b (0 : Fin 1) i)
      = (argB W b).S i := by
  rw [s_term, e_at hW, Blk.S_eq]
  simp only [row_div, row_mod]

include hW in
theorem q_at (b : Fin 50) (i : Fin 1024) (l : Fin 2560) :
    StableHlo.after opsQ (StableHlo.after opsE (StableHlo.after opsZ (StableHlo.after opsDx W))) (Proc.tc.devRef main_v57) (ix3 b i l)
      = (argB W b).Q i l := by
  rw [q_term, e_at hW, d_late hW]
  unfold Blk.Q
  rw [Blk.I_eq]
  simp only [row_div, row_mod]

end Rows

/-! ## The codes after the cast -/

variable (m : (ℓ : Loc nD τ sig) → Idealize.ShloMosaic.Buf (Elt Ideal) ℓ) (ρ : Dev nD → PrngReg) (c : Dev nD)

theorem idx : ∀ t : Fin cfg0.N, win0_0.index t = ![0, 0, 0] ∧ win0_1.index t = ![0, 0, 0] :=
  (by decide +kernel : ∀ t : Fin grid0.N, _)

theorem cast_codes : (dats m 0 c).arrAt 1 cfg0.N = V m c main_v57 := by
  refine (dats m 0 c).arrAt_eq_of_after_last 1 t0_0 (by decide +kernel) _ fun j => ?_
  refine (cast_eq _ _).trans ?_
  rw [after0_1]
  unfold out0_1
  refine (Cert.ReferenceIdeal.Value.canon1_eq _ _).trans ?_
  have hj : (((cfg0.win 0).blk t0_0).view.emb (r0_0.idx (Cert.ReferenceIdeal.Value.ix1_0 fun a => ⟨(j a).val, (j a).isLt⟩)) : S50x1024x2560.Idx)
      = (cfg0.win 1).arr.view.emb j := by
    funext a
    refine Fin.ext ?_
    refine (win0_0.rect_emb_val_of_index_zero t0_0 a (by rw [(idx t0_0).1]; fin_cases a <;> rfl) _).trans ?_
    fin_cases a
    · show 0 + 1 * (j 0).val = (j 0).val
      omega
    · show 0 + 1 * (j 1).val = (j 1).val
      omega
    · show 0 + 1 * (j 2).val = (j 2).val
      omega
  exact congrArg (V m c main_v57) hj

/-! ## Both sides over one memory -/

section Main

variable (n : (ℓ : Loc Cert.KernelIdeal.nD Cert.KernelIdeal.τ Cert.KernelIdeal.sig) → Idealize.ShloMosaic.Buf (Elt Ideal) ℓ)

/-- Where the row factors are non-negative and finite, every row factor of every block is. -/
theorem row_facts (hp : Cert.Pre_KernelIdeal_rstd_nonneg_finite n) (c : Dev Cert.KernelIdeal.nD) (b i : Nat) :
    0 ≤ (Rms.I.B n c b).R i ∧ (Rms.I.B n c b).R i ≠ ⊤ := by
  have h := congrFun (hp c) ix0
  unfold Cert.Pre_rstd_nonneg_finite.fn at h
  haveI : Subsingleton Cert.Pre_rstd_nonneg_finite.S_.Idx := ⟨fun x y => funext fun a => a.elim0⟩
  have hx := Host.reduce_andi_all _ _ _ _ _ h (ix2 ⟨b % 50, Nat.mod_lt _ (by decide)⟩ ⟨i % 1024, Nat.mod_lt _ (by decide)⟩)
  have hand : ∀ p q : BitVec 1, p &&& q = 1#1 → p = 1#1 ∧ q = 1#1 := by decide
  have hb : ∀ p : Bool, BitVec.ofBool p = 1#1 → p = true := by decide
  obtain ⟨h1, h2⟩ := hand _ _ hx
  have z0 : Ideal.ofBits .f32 0x00000000#32 = 0 := by
    norm_num [Ideal.ofBits, Ideal.ieee, Nat.shiftRight_eq_div_pow, show ¬ BitVec.extractLsb' 31 1 0x00000000#32 = 1#1 by decide]
  have zt : Ideal.ofBits .f32 0x7F800000#32 = ⊤ := by
    norm_num [Ideal.ofBits, Ideal.ieee, Nat.shiftRight_eq_div_pow, show ¬ BitVec.extractLsb' 31 1 0x7F800000#32 = 1#1 by decide]
  have h1' : Ideal.ofBits .f32 0x00000000#32 ≤ (Rms.I.B n c b).R i := of_decide_eq_true (hb _ h1)
  have h2' : (Rms.I.B n c b).R i < Ideal.ofBits .f32 0x7F800000#32 := of_decide_eq_true (hb _ h2)
  rw [z0] at h1'
  rw [zt] at h2'
  exact ⟨h1', h2'.ne⟩

/-- `gamma`'s gradient after `k` blocks, its eight rows added, is the sum over the rows so far. -/
theorem acc_sum (c : Dev Cert.KernelIdeal.nD) (l k : Nat) :
    ∑ a ∈ Finset.range 8, Rms.I.accA n c k a l
      = ∑ b ∈ Finset.range k, ∑ i ∈ Finset.range 1024, (Rms.I.B n c b).Y i l * (Rms.I.B n c b).xh i l := by
  induction k with
  | zero => simp [Rms.I.accA]
  | succ k ih =>
    rw [Finset.sum_range_succ (fun b => ∑ i ∈ Finset.range 1024, (Rms.I.B n c b).Y i l * (Rms.I.B n c b).xh i l), ← ih]
    exact sum_accTo (Rms.I.B n c k) (Rms.I.accA n c k) l 32

variable (hargs : ∀ c : Dev Cert.KernelIdeal.nD,
      m ((c.tc : Thread nD τ).loc main_arg0) = n ((c.tc : Thread Cert.KernelIdeal.nD Cert.KernelIdeal.τ).loc Cert.KernelIdeal.main_arg0)
      ∧ m ((c.tc : Thread nD τ).loc main_arg1) = n ((c.tc : Thread Cert.KernelIdeal.nD Cert.KernelIdeal.τ).loc Cert.KernelIdeal.main_arg1)
      ∧ m ((c.tc : Thread nD τ).loc main_arg2) = n ((c.tc : Thread Cert.KernelIdeal.nD Cert.KernelIdeal.τ).loc Cert.KernelIdeal.main_arg2)
      ∧ m ((c.tc : Thread nD τ).loc main_arg3) = n ((c.tc : Thread Cert.KernelIdeal.nD Cert.KernelIdeal.τ).loc Cert.KernelIdeal.main_arg3))

include hargs in
theorem argB_eq (b : Nat) : argB (fun r => m (c, r)) b = Rms.I.B n c b := by
  obtain ⟨h0, h1, h2, h3⟩ := hargs c
  show Rms.I.argBlk (m ((c.tc : Thread nD τ).loc main_arg0)) (m ((c.tc : Thread nD τ).loc main_arg1))
    (m ((c.tc : Thread nD τ).loc main_arg2)) (m ((c.tc : Thread nD τ).loc main_arg3)) b = _
  rw [h0, h1, h2, h3]
  rfl

include hargs in
theorem good (hp : Cert.Pre_KernelIdeal_rstd_nonneg_finite n) : Good (fun r => m (c, r)) := fun b i => by
  rw [argB_eq m c n hargs]
  exact row_facts n hp c b i

include hargs in
theorem dgamma_eq : V m c main_v22 = Rms.I.dgamma n c := by
  funext j
  obtain ⟨z, l, rfl⟩ : ∃ (z : Fin 1) (l : Fin 2560), j = ix2 z l := ⟨j 0, j 1, eq_ix2 j⟩
  obtain rfl : z = 0 := Subsingleton.elim _ _
  refine (g_sum (fun r => m (c, r)) l).trans ?_
  unfold gSum
  simp only [argB_eq m c n hargs]
  show _ = ∑ a : Fin 8, Rms.I.accA n c 50 a.val l.val
  rw [Fin.sum_univ_eq_sum_range (fun a => Rms.I.accA n c 50 a l.val) 8, acc_sum,
    Fin.sum_univ_eq_sum_range (fun p => (Rms.I.B n c (p / 1024)).Y (p % 1024) l * (Rms.I.B n c (p / 1024)).xh (p % 1024) l) 51200]
  refine (sum_runs 50 1024 _).trans ?_
  refine Finset.sum_congr rfl fun b _ => Finset.sum_congr rfl fun i hi => ?_
  have hi' := Finset.mem_range.mp hi
  have hd : (1024 * b + i) / 1024 = b := by omega
  have hm : (1024 * b + i) % 1024 = i := by omega
  rw [hd, hm]

include hargs in
theorem codes_eq (hp : Cert.Pre_KernelIdeal_rstd_nonneg_finite n) : V m c main_v57 = Rms.I.codes n c := by
  funext j
  obtain ⟨b, i, l, rfl⟩ : ∃ (b : Fin 50) (i : Fin 1024) (l : Fin 2560), j = ix3 b i l := ⟨j 0, j 1, j 2, eq_ix3 j⟩
  refine (congrFun (V_eq m c main_v57) _).trans ?_
  refine (q_at (good m c n hargs hp) b i l).trans ?_
  rw [argB_eq m c n hargs]
  rfl

include hargs in
theorem scales_eq (hp : Cert.Pre_KernelIdeal_rstd_nonneg_finite n) : V m c main_v50 = Rms.I.scales n c := by
  funext j
  obtain ⟨b, z, i, rfl⟩ : ∃ (b : Fin 50) (z : Fin 1) (i : Fin 1024), j = ix3 b z i := ⟨j 0, j 1, j 2, eq_ix3 j⟩
  obtain rfl : z = 0 := Subsingleton.elim _ _
  refine (congrFun (V_eq m c main_v50) _).trans ?_
  refine (s_at (good m c n hargs hp) b i).trans ?_
  rw [argB_eq m c n hargs]
  rfl

end Main

/-- The kernel and the reference, from one set of arguments, end with the same three results. -/
theorem algebraic : Cert.algebraic_KernelIdeal_ReferenceIdeal_pre_rstd_nonneg_finite := by
  intro n g m g' hp hargs
  refine ⟨Rms.I.dgamma n, Rms.I.codes n, Rms.I.scales n, Rms.I.run n g, ?_⟩
  refine (θ_run defs _ _).mono (fun r h c => ?_) (run_main m g')
  refine ⟨?_, ?_, ?_, Cert.ReferenceIdeal.Value.kept_main_arg0 m r h c, Cert.ReferenceIdeal.Value.kept_main_arg1 m r h c,
    Cert.ReferenceIdeal.Value.kept_main_arg2 m r h c, Cert.ReferenceIdeal.Value.kept_main_arg3 m r h c⟩
  · exact ((h c).2 main_v22 (Pipeline.mem_restRefs_of main_v22 (by decide) (by decide))).trans (dgamma_eq m c n hargs)
  · exact (Cert.ReferenceIdeal.Value.post1 m r h c).trans ((cast_codes m c).trans (codes_eq m c n hargs hp))
  · exact ((h c).2 main_v50 (Pipeline.mem_restRefs_of main_v50 (by decide) (by decide))).trans (scales_eq m c n hargs hp)

end Rms.R

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_rstd_nonneg_finite
public import proofs.«01_k».proof.Proof.Rms.FrameK
public import proofs.«01_k».proof.Proof.Rms.FrameI
public import proofs.«01_k».proof.Proof.Rms.Algebra
public import Idealize.ShloMosaic.Adequacy
public import Idealize.ShloMosaic.Init

/-! # The claims about the RMSNorm backward kernel -/

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_rstd_nonneg_finite.Gen.facts,
  fun m ρ _ => Rms.K.frame m ρ, fun m ρ _ => Rms.I.framed m ρ, fun m ρ _ => Rms.I.framed m ρ,
  fun m ρ _ => Cert.ReferenceIdeal.Gen.frame m ρ, fun m ρ _ => Cert.ReferenceIdeal.Gen.frame m ρ,
  IdealRules.named_const.statement Cert.KernelIdeal.κ "inv_d" .f32 0x39CCCCCD#32 _ rfl, Rms.R.algebraic⟩

end Cert.Proof

end
